-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8)
      ∧ r.2.mem ((c.tc : Thread Cert.Lat.nD Cert.Lat.τ).loc Cert.Lat.main_arg9) = m ((c.tc : Thread Cert.Lat.nD Cert.Lat.τ).loc Cert.Lat.main_arg9)
      ∧ r.2.mem ((c.tc : Thread Cert.Lat.nD Cert.Lat.τ).loc Cert.Lat.main_arg10) = m ((c.tc : Thread Cert.Lat.nD Cert.Lat.τ).loc Cert.Lat.main_arg10)
      ∧ r.2.mem ((c.tc : Thread Cert.Lat.nD Cert.Lat.τ).loc Cert.Lat.main_arg11) = m ((c.tc : Thread Cert.Lat.nD Cert.Lat.τ).loc Cert.Lat.main_arg11)
      ∧ r.2.mem ((c.tc : Thread Cert.Lat.nD Cert.Lat.τ).loc Cert.Lat.main_arg12) = m ((c.tc : Thread Cert.Lat.nD Cert.Lat.τ).loc Cert.Lat.main_arg12)
      ∧ r.2.mem ((c.tc : Thread Cert.Lat.nD Cert.Lat.τ).loc Cert.Lat.main_arg13) = m ((c.tc : Thread Cert.Lat.nD Cert.Lat.τ).loc Cert.Lat.main_arg13)
      ∧ r.2.mem ((c.tc : Thread Cert.Lat.nD Cert.Lat.τ).loc Cert.Lat.main_arg14) = m ((c.tc : Thread Cert.Lat.nD Cert.Lat.τ).loc Cert.Lat.main_arg14)
      ∧ r.2.mem ((c.tc : Thread Cert.Lat.nD Cert.Lat.τ).loc Cert.Lat.main_arg15) = m ((c.tc : Thread Cert.Lat.nD Cert.Lat.τ).loc Cert.Lat.main_arg15))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
      ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
      ∧ r.2.mem ((c.tc : Thread Cert.LatIdeal.nD Cert.LatIdeal.τ).loc Cert.LatIdeal.main_arg12) = m ((c.tc : Thread Cert.LatIdeal.nD Cert.LatIdeal.τ).loc Cert.LatIdeal.main_arg12)
      ∧ r.2.mem ((c.tc : Thread Cert.LatIdeal.nD Cert.LatIdeal.τ).loc Cert.LatIdeal.main_arg13) = m ((c.tc : Thread Cert.LatIdeal.nD Cert.LatIdeal.τ).loc Cert.LatIdeal.main_arg13)
      ∧ r.2.mem ((c.tc : Thread Cert.LatIdeal.nD Cert.LatIdeal.τ).loc Cert.LatIdeal.main_arg14) = m ((c.tc : Thread Cert.LatIdeal.nD Cert.LatIdeal.τ).loc Cert.LatIdeal.main_arg14)
      ∧ r.2.mem ((c.tc : Thread Cert.LatIdeal.nD Cert.LatIdeal.τ).loc Cert.LatIdeal.main_arg15) = m ((c.tc : Thread Cert.LatIdeal.nD Cert.LatIdeal.τ).loc Cert.LatIdeal.main_arg15))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10)
      ∧ r.2.mem ((c.tc : Thread Cert.LatRefIdeal.nD Cert.LatRefIdeal.τ).loc Cert.LatRefIdeal.main_arg11) = m ((c.tc : Thread Cert.LatRefIdeal.nD Cert.LatRefIdeal.τ).loc Cert.LatRefIdeal.main_arg11)
      ∧ r.2.mem ((c.tc : Thread Cert.LatRefIdeal.nD Cert.LatRefIdeal.τ).loc Cert.LatRefIdeal.main_arg12) = m ((c.tc : Thread Cert.LatRefIdeal.nD Cert.LatRefIdeal.τ).loc Cert.LatRefIdeal.main_arg12)
      ∧ r.2.mem ((c.tc : Thread Cert.LatRefIdeal.nD Cert.LatRefIdeal.τ).loc Cert.LatRefIdeal.main_arg13) = m ((c.tc : Thread Cert.LatRefIdeal.nD Cert.LatRefIdeal.τ).loc Cert.LatRefIdeal.main_arg13)
      ∧ r.2.mem ((c.tc : Thread Cert.LatRefIdeal.nD Cert.LatRefIdeal.τ).loc Cert.LatRefIdeal.main_arg14) = m ((c.tc : Thread Cert.LatRefIdeal.nD Cert.LatRefIdeal.τ).loc Cert.LatRefIdeal.main_arg14)
      ∧ r.2.mem ((c.tc : Thread Cert.LatRefIdeal.nD Cert.LatRefIdeal.τ).loc Cert.LatRefIdeal.main_arg15) = m ((c.tc : Thread Cert.LatRefIdeal.nD Cert.LatRefIdeal.τ).loc Cert.LatRefIdeal.main_arg15))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8)
      ∧ r.2.mem ((c.tc : Thread Cert.Ctx.nD Cert.Ctx.τ).loc Cert.Ctx.main_arg9) = m ((c.tc : Thread Cert.Ctx.nD Cert.Ctx.τ).loc Cert.Ctx.main_arg9)
      ∧ r.2.mem ((c.tc : Thread Cert.Ctx.nD Cert.Ctx.τ).loc Cert.Ctx.main_arg10) = m ((c.tc : Thread Cert.Ctx.nD Cert.Ctx.τ).loc Cert.Ctx.main_arg10)
      ∧ r.2.mem ((c.tc : Thread Cert.Ctx.nD Cert.Ctx.τ).loc Cert.Ctx.main_arg11) = m ((c.tc : Thread Cert.Ctx.nD Cert.Ctx.τ).loc Cert.Ctx.main_arg11)
      ∧ r.2.mem ((c.tc : Thread Cert.Ctx.nD Cert.Ctx.τ).loc Cert.Ctx.main_arg12) = m ((c.tc : Thread Cert.Ctx.nD Cert.Ctx.τ).loc Cert.Ctx.main_arg12)
      ∧ r.2.mem ((c.tc : Thread Cert.Ctx.nD Cert.Ctx.τ).loc Cert.Ctx.main_arg13) = m ((c.tc : Thread Cert.Ctx.nD Cert.Ctx.τ).loc Cert.Ctx.main_arg13)
      ∧ r.2.mem ((c.tc : Thread Cert.Ctx.nD Cert.Ctx.τ).loc Cert.Ctx.main_arg14) = m ((c.tc : Thread Cert.Ctx.nD Cert.Ctx.τ).loc Cert.Ctx.main_arg14)
      ∧ r.2.mem ((c.tc : Thread Cert.Ctx.nD Cert.Ctx.τ).loc Cert.Ctx.main_arg15) = m ((c.tc : Thread Cert.Ctx.nD Cert.Ctx.τ).loc Cert.Ctx.main_arg15))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
      ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
      ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10)
      ∧ r.2.mem ((c.tc : Thread Cert.CtxIdeal.nD Cert.CtxIdeal.τ).loc Cert.CtxIdeal.main_arg11) = m ((c.tc : Thread Cert.CtxIdeal.nD Cert.CtxIdeal.τ).loc Cert.CtxIdeal.main_arg11)
      ∧ r.2.mem ((c.tc : Thread Cert.CtxIdeal.nD Cert.CtxIdeal.τ).loc Cert.CtxIdeal.main_arg12) = m ((c.tc : Thread Cert.CtxIdeal.nD Cert.CtxIdeal.τ).loc Cert.CtxIdeal.main_arg12)
      ∧ r.2.mem ((c.tc : Thread Cert.CtxIdeal.nD Cert.CtxIdeal.τ).loc Cert.CtxIdeal.main_arg13) = m ((c.tc : Thread Cert.CtxIdeal.nD Cert.CtxIdeal.τ).loc Cert.CtxIdeal.main_arg13)
      ∧ r.2.mem ((c.tc : Thread Cert.CtxIdeal.nD Cert.CtxIdeal.τ).loc Cert.CtxIdeal.main_arg14) = m ((c.tc : Thread Cert.CtxIdeal.nD Cert.CtxIdeal.τ).loc Cert.CtxIdeal.main_arg14)
      ∧ r.2.mem ((c.tc : Thread Cert.CtxIdeal.nD Cert.CtxIdeal.τ).loc Cert.CtxIdeal.main_arg15) = m ((c.tc : Thread Cert.CtxIdeal.nD Cert.CtxIdeal.τ).loc Cert.CtxIdeal.main_arg15))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8)
      ∧ r.2.mem ((c.tc : Thread Cert.CtxRefIdeal.nD Cert.CtxRefIdeal.τ).loc Cert.CtxRefIdeal.main_arg9) = m ((c.tc : Thread Cert.CtxRefIdeal.nD Cert.CtxRefIdeal.τ).loc Cert.CtxRefIdeal.main_arg9)
      ∧ r.2.mem ((c.tc : Thread Cert.CtxRefIdeal.nD Cert.CtxRefIdeal.τ).loc Cert.CtxRefIdeal.main_arg10) = m ((c.tc : Thread Cert.CtxRefIdeal.nD Cert.CtxRefIdeal.τ).loc Cert.CtxRefIdeal.main_arg10)
      ∧ r.2.mem ((c.tc : Thread Cert.CtxRefIdeal.nD Cert.CtxRefIdeal.τ).loc Cert.CtxRefIdeal.main_arg11) = m ((c.tc : Thread Cert.CtxRefIdeal.nD Cert.CtxRefIdeal.τ).loc Cert.CtxRefIdeal.main_arg11)
      ∧ r.2.mem ((c.tc : Thread Cert.CtxRefIdeal.nD Cert.CtxRefIdeal.τ).loc Cert.CtxRefIdeal.main_arg12) = m ((c.tc : Thread Cert.CtxRefIdeal.nD Cert.CtxRefIdeal.τ).loc Cert.CtxRefIdeal.main_arg12)
      ∧ r.2.mem ((c.tc : Thread Cert.CtxRefIdeal.nD Cert.CtxRefIdeal.τ).loc Cert.CtxRefIdeal.main_arg13) = m ((c.tc : Thread Cert.CtxRefIdeal.nD Cert.CtxRefIdeal.τ).loc Cert.CtxRefIdeal.main_arg13)
      ∧ r.2.mem ((c.tc : Thread Cert.CtxRefIdeal.nD Cert.CtxRefIdeal.τ).loc Cert.CtxRefIdeal.main_arg14) = m ((c.tc : Thread Cert.CtxRefIdeal.nD Cert.CtxRefIdeal.τ).loc Cert.CtxRefIdeal.main_arg14)
      ∧ r.2.mem ((c.tc : Thread Cert.CtxRefIdeal.nD Cert.CtxRefIdeal.τ).loc Cert.CtxRefIdeal.main_arg15) = m ((c.tc : Thread Cert.CtxRefIdeal.nD Cert.CtxRefIdeal.τ).loc Cert.CtxRefIdeal.main_arg15))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Mla_MlaIdeal : Prop :=
  True

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v32) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v42) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v13) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v259) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Lat_LatIdeal : Prop :=
  IdealRules.named_const.Statement Cert.LatIdeal.κ "r96" .f32 0x3C2AAAAB#32 ((96⁻¹ : ℝ) : EReal)

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)
      ∧ m' ((c.tc : Thread Cert.LatRefIdeal.nD Cert.LatRefIdeal.τ).loc Cert.LatRefIdeal.main_arg9) = m ((c.tc : Thread Cert.LatIdeal.nD Cert.LatIdeal.τ).loc Cert.LatIdeal.main_arg9)
      ∧ m' ((c.tc : Thread Cert.LatRefIdeal.nD Cert.LatRefIdeal.τ).loc Cert.LatRefIdeal.main_arg10) = m ((c.tc : Thread Cert.LatIdeal.nD Cert.LatIdeal.τ).loc Cert.LatIdeal.main_arg10)
      ∧ m' ((c.tc : Thread Cert.LatRefIdeal.nD Cert.LatRefIdeal.τ).loc Cert.LatRefIdeal.main_arg11) = m ((c.tc : Thread Cert.LatIdeal.nD Cert.LatIdeal.τ).loc Cert.LatIdeal.main_arg11)
      ∧ m' ((c.tc : Thread Cert.LatRefIdeal.nD Cert.LatRefIdeal.τ).loc Cert.LatRefIdeal.main_arg12) = m ((c.tc : Thread Cert.LatIdeal.nD Cert.LatIdeal.τ).loc Cert.LatIdeal.main_arg12)
      ∧ m' ((c.tc : Thread Cert.LatRefIdeal.nD Cert.LatRefIdeal.τ).loc Cert.LatRefIdeal.main_arg13) = m ((c.tc : Thread Cert.LatIdeal.nD Cert.LatIdeal.τ).loc Cert.LatIdeal.main_arg13)
      ∧ m' ((c.tc : Thread Cert.LatRefIdeal.nD Cert.LatRefIdeal.τ).loc Cert.LatRefIdeal.main_arg14) = m ((c.tc : Thread Cert.LatIdeal.nD Cert.LatIdeal.τ).loc Cert.LatIdeal.main_arg14)
      ∧ m' ((c.tc : Thread Cert.LatRefIdeal.nD Cert.LatRefIdeal.τ).loc Cert.LatRefIdeal.main_arg15) = m ((c.tc : Thread Cert.LatIdeal.nD Cert.LatIdeal.τ).loc Cert.LatIdeal.main_arg15)) →
    ∃ (v0 : (c : Dev Cert.LatIdeal.nD) → Buf (Elt Ideal) ((c.tc : Thread Cert.LatIdeal.nD Cert.LatIdeal.τ).loc Cert.LatIdeal.main_v0_0)) (v1 : (c : Dev Cert.LatIdeal.nD) → Buf (Elt Ideal) ((c.tc : Thread Cert.LatIdeal.nD Cert.LatIdeal.τ).loc Cert.LatIdeal.main_v0_1)) (v2 : (c : Dev Cert.LatIdeal.nD) → Buf (Elt Ideal) ((c.tc : Thread Cert.LatIdeal.nD Cert.LatIdeal.τ).loc Cert.LatIdeal.main_v0_2)) (v3 : (c : Dev Cert.LatIdeal.nD) → Buf (Elt Ideal) ((c.tc : Thread Cert.LatIdeal.nD Cert.LatIdeal.τ).loc Cert.LatIdeal.main_v0_3)) (v4 : (c : Dev Cert.LatIdeal.nD) → Buf (Elt Ideal) ((c.tc : Thread Cert.LatIdeal.nD Cert.LatIdeal.τ).loc Cert.LatIdeal.main_v0_4)) (v5 : (c : Dev Cert.LatIdeal.nD) → Buf (Elt Ideal) ((c.tc : Thread Cert.LatIdeal.nD Cert.LatIdeal.τ).loc Cert.LatIdeal.main_v0_5)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v0_0) = v0 c
          ∧ r.2.mem ((c.tc : Thread Cert.LatIdeal.nD Cert.LatIdeal.τ).loc Cert.LatIdeal.main_v0_1) = v1 c
          ∧ r.2.mem ((c.tc : Thread Cert.LatIdeal.nD Cert.LatIdeal.τ).loc Cert.LatIdeal.main_v0_2) = v2 c
          ∧ r.2.mem ((c.tc : Thread Cert.LatIdeal.nD Cert.LatIdeal.τ).loc Cert.LatIdeal.main_v0_3) = v3 c
          ∧ r.2.mem ((c.tc : Thread Cert.LatIdeal.nD Cert.LatIdeal.τ).loc Cert.LatIdeal.main_v0_4) = v4 c
          ∧ r.2.mem ((c.tc : Thread Cert.LatIdeal.nD Cert.LatIdeal.τ).loc Cert.LatIdeal.main_v0_5) = v5 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
          ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
          ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
          ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
          ∧ r.2.mem ((c.tc : Thread Cert.LatIdeal.nD Cert.LatIdeal.τ).loc Cert.LatIdeal.main_arg12) = m ((c.tc : Thread Cert.LatIdeal.nD Cert.LatIdeal.τ).loc Cert.LatIdeal.main_arg12)
          ∧ r.2.mem ((c.tc : Thread Cert.LatIdeal.nD Cert.LatIdeal.τ).loc Cert.LatIdeal.main_arg13) = m ((c.tc : Thread Cert.LatIdeal.nD Cert.LatIdeal.τ).loc Cert.LatIdeal.main_arg13)
          ∧ r.2.mem ((c.tc : Thread Cert.LatIdeal.nD Cert.LatIdeal.τ).loc Cert.LatIdeal.main_arg14) = m ((c.tc : Thread Cert.LatIdeal.nD Cert.LatIdeal.τ).loc Cert.LatIdeal.main_arg14)
          ∧ r.2.mem ((c.tc : Thread Cert.LatIdeal.nD Cert.LatIdeal.τ).loc Cert.LatIdeal.main_arg15) = m ((c.tc : Thread Cert.LatIdeal.nD Cert.LatIdeal.τ).loc Cert.LatIdeal.main_arg15))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v171) = v0 c
          ∧ r.2.mem ((c.tc : Thread Cert.LatRefIdeal.nD Cert.LatRefIdeal.τ).loc Cert.LatRefIdeal.main_v173) = v1 c
          ∧ r.2.mem ((c.tc : Thread Cert.LatRefIdeal.nD Cert.LatRefIdeal.τ).loc Cert.LatRefIdeal.main_v175) = v2 c
          ∧ r.2.mem ((c.tc : Thread Cert.LatRefIdeal.nD Cert.LatRefIdeal.τ).loc Cert.LatRefIdeal.main_v177) = v3 c
          ∧ r.2.mem ((c.tc : Thread Cert.LatRefIdeal.nD Cert.LatRefIdeal.τ).loc Cert.LatRefIdeal.main_v179) = v4 c
          ∧ r.2.mem ((c.tc : Thread Cert.LatRefIdeal.nD Cert.LatRefIdeal.τ).loc Cert.LatRefIdeal.main_v181) = v5 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
          ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9)
          ∧ r.2.mem ((c.tc : Thread Cert.LatRefIdeal.nD Cert.LatRefIdeal.τ).loc Cert.LatRefIdeal.main_arg10) = m' ((c.tc : Thread Cert.LatRefIdeal.nD Cert.LatRefIdeal.τ).loc Cert.LatRefIdeal.main_arg10)
          ∧ r.2.mem ((c.tc : Thread Cert.LatRefIdeal.nD Cert.LatRefIdeal.τ).loc Cert.LatRefIdeal.main_arg11) = m' ((c.tc : Thread Cert.LatRefIdeal.nD Cert.LatRefIdeal.τ).loc Cert.LatRefIdeal.main_arg11)
          ∧ r.2.mem ((c.tc : Thread Cert.LatRefIdeal.nD Cert.LatRefIdeal.τ).loc Cert.LatRefIdeal.main_arg12) = m' ((c.tc : Thread Cert.LatRefIdeal.nD Cert.LatRefIdeal.τ).loc Cert.LatRefIdeal.main_arg12)
          ∧ r.2.mem ((c.tc : Thread Cert.LatRefIdeal.nD Cert.LatRefIdeal.τ).loc Cert.LatRefIdeal.main_arg13) = m' ((c.tc : Thread Cert.LatRefIdeal.nD Cert.LatRefIdeal.τ).loc Cert.LatRefIdeal.main_arg13)
          ∧ r.2.mem ((c.tc : Thread Cert.LatRefIdeal.nD Cert.LatRefIdeal.τ).loc Cert.LatRefIdeal.main_arg14) = m' ((c.tc : Thread Cert.LatRefIdeal.nD Cert.LatRefIdeal.τ).loc Cert.LatRefIdeal.main_arg14)
          ∧ r.2.mem ((c.tc : Thread Cert.LatRefIdeal.nD Cert.LatRefIdeal.τ).loc Cert.LatRefIdeal.main_arg15) = m' ((c.tc : Thread Cert.LatRefIdeal.nD Cert.LatRefIdeal.τ).loc Cert.LatRefIdeal.main_arg15))

def preserves_Ctx_CtxIdeal : Prop :=
  IdealRules.named_const.Statement Cert.CtxIdeal.κ "r96" .f32 0x3C2AAAAB#32 ((96⁻¹ : ℝ) : EReal)

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)
      ∧ m' ((c.tc : Thread Cert.CtxRefIdeal.nD Cert.CtxRefIdeal.τ).loc Cert.CtxRefIdeal.main_arg8) = m ((c.tc : Thread Cert.CtxIdeal.nD Cert.CtxIdeal.τ).loc Cert.CtxIdeal.main_arg8)
      ∧ m' ((c.tc : Thread Cert.CtxRefIdeal.nD Cert.CtxRefIdeal.τ).loc Cert.CtxRefIdeal.main_arg9) = m ((c.tc : Thread Cert.CtxIdeal.nD Cert.CtxIdeal.τ).loc Cert.CtxIdeal.main_arg9)
      ∧ m' ((c.tc : Thread Cert.CtxRefIdeal.nD Cert.CtxRefIdeal.τ).loc Cert.CtxRefIdeal.main_arg10) = m ((c.tc : Thread Cert.CtxIdeal.nD Cert.CtxIdeal.τ).loc Cert.CtxIdeal.main_arg10)
      ∧ m' ((c.tc : Thread Cert.CtxRefIdeal.nD Cert.CtxRefIdeal.τ).loc Cert.CtxRefIdeal.main_arg11) = m ((c.tc : Thread Cert.CtxIdeal.nD Cert.CtxIdeal.τ).loc Cert.CtxIdeal.main_arg11)
      ∧ m' ((c.tc : Thread Cert.CtxRefIdeal.nD Cert.CtxRefIdeal.τ).loc Cert.CtxRefIdeal.main_arg12) = m ((c.tc : Thread Cert.CtxIdeal.nD Cert.CtxIdeal.τ).loc Cert.CtxIdeal.main_arg12)
      ∧ m' ((c.tc : Thread Cert.CtxRefIdeal.nD Cert.CtxRefIdeal.τ).loc Cert.CtxRefIdeal.main_arg13) = m ((c.tc : Thread Cert.CtxIdeal.nD Cert.CtxIdeal.τ).loc Cert.CtxIdeal.main_arg13)
      ∧ m' ((c.tc : Thread Cert.CtxRefIdeal.nD Cert.CtxRefIdeal.τ).loc Cert.CtxRefIdeal.main_arg14) = m ((c.tc : Thread Cert.CtxIdeal.nD Cert.CtxIdeal.τ).loc Cert.CtxIdeal.main_arg14)
      ∧ m' ((c.tc : Thread Cert.CtxRefIdeal.nD Cert.CtxRefIdeal.τ).loc Cert.CtxRefIdeal.main_arg15) = m ((c.tc : Thread Cert.CtxIdeal.nD Cert.CtxIdeal.τ).loc Cert.CtxIdeal.main_arg15)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)) (v2 : (c : Dev Cert.CtxIdeal.nD) → Buf (Elt Ideal) ((c.tc : Thread Cert.CtxIdeal.nD Cert.CtxIdeal.τ).loc Cert.CtxIdeal.main_v0_2)) (v3 : (c : Dev Cert.CtxIdeal.nD) → Buf (Elt Ideal) ((c.tc : Thread Cert.CtxIdeal.nD Cert.CtxIdeal.τ).loc Cert.CtxIdeal.main_v0_3)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_v0_2) = v2 c
          ∧ r.2.mem ((c.tc : Thread Cert.CtxIdeal.nD Cert.CtxIdeal.τ).loc Cert.CtxIdeal.main_v0_3) = v3 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
          ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
          ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10)
          ∧ r.2.mem ((c.tc : Thread Cert.CtxIdeal.nD Cert.CtxIdeal.τ).loc Cert.CtxIdeal.main_arg11) = m ((c.tc : Thread Cert.CtxIdeal.nD Cert.CtxIdeal.τ).loc Cert.CtxIdeal.main_arg11)
          ∧ r.2.mem ((c.tc : Thread Cert.CtxIdeal.nD Cert.CtxIdeal.τ).loc Cert.CtxIdeal.main_arg12) = m ((c.tc : Thread Cert.CtxIdeal.nD Cert.CtxIdeal.τ).loc Cert.CtxIdeal.main_arg12)
          ∧ r.2.mem ((c.tc : Thread Cert.CtxIdeal.nD Cert.CtxIdeal.τ).loc Cert.CtxIdeal.main_arg13) = m ((c.tc : Thread Cert.CtxIdeal.nD Cert.CtxIdeal.τ).loc Cert.CtxIdeal.main_arg13)
          ∧ r.2.mem ((c.tc : Thread Cert.CtxIdeal.nD Cert.CtxIdeal.τ).loc Cert.CtxIdeal.main_arg14) = m ((c.tc : Thread Cert.CtxIdeal.nD Cert.CtxIdeal.τ).loc Cert.CtxIdeal.main_arg14)
          ∧ r.2.mem ((c.tc : Thread Cert.CtxIdeal.nD Cert.CtxIdeal.τ).loc Cert.CtxIdeal.main_arg15) = m ((c.tc : Thread Cert.CtxIdeal.nD Cert.CtxIdeal.τ).loc Cert.CtxIdeal.main_arg15))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v102) = v0 c
          ∧ r.2.mem ((c.tc : Thread Cert.CtxRefIdeal.nD Cert.CtxRefIdeal.τ).loc Cert.CtxRefIdeal.main_v104) = v1 c
          ∧ r.2.mem ((c.tc : Thread Cert.CtxRefIdeal.nD Cert.CtxRefIdeal.τ).loc Cert.CtxRefIdeal.main_v106) = v2 c
          ∧ r.2.mem ((c.tc : Thread Cert.CtxRefIdeal.nD Cert.CtxRefIdeal.τ).loc Cert.CtxRefIdeal.main_v108) = v3 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
          ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8)
          ∧ r.2.mem ((c.tc : Thread Cert.CtxRefIdeal.nD Cert.CtxRefIdeal.τ).loc Cert.CtxRefIdeal.main_arg9) = m' ((c.tc : Thread Cert.CtxRefIdeal.nD Cert.CtxRefIdeal.τ).loc Cert.CtxRefIdeal.main_arg9)
          ∧ r.2.mem ((c.tc : Thread Cert.CtxRefIdeal.nD Cert.CtxRefIdeal.τ).loc Cert.CtxRefIdeal.main_arg10) = m' ((c.tc : Thread Cert.CtxRefIdeal.nD Cert.CtxRefIdeal.τ).loc Cert.CtxRefIdeal.main_arg10)
          ∧ r.2.mem ((c.tc : Thread Cert.CtxRefIdeal.nD Cert.CtxRefIdeal.τ).loc Cert.CtxRefIdeal.main_arg11) = m' ((c.tc : Thread Cert.CtxRefIdeal.nD Cert.CtxRefIdeal.τ).loc Cert.CtxRefIdeal.main_arg11)
          ∧ r.2.mem ((c.tc : Thread Cert.CtxRefIdeal.nD Cert.CtxRefIdeal.τ).loc Cert.CtxRefIdeal.main_arg12) = m' ((c.tc : Thread Cert.CtxRefIdeal.nD Cert.CtxRefIdeal.τ).loc Cert.CtxRefIdeal.main_arg12)
          ∧ r.2.mem ((c.tc : Thread Cert.CtxRefIdeal.nD Cert.CtxRefIdeal.τ).loc Cert.CtxRefIdeal.main_arg13) = m' ((c.tc : Thread Cert.CtxRefIdeal.nD Cert.CtxRefIdeal.τ).loc Cert.CtxRefIdeal.main_arg13)
          ∧ r.2.mem ((c.tc : Thread Cert.CtxRefIdeal.nD Cert.CtxRefIdeal.τ).loc Cert.CtxRefIdeal.main_arg14) = m' ((c.tc : Thread Cert.CtxRefIdeal.nD Cert.CtxRefIdeal.τ).loc Cert.CtxRefIdeal.main_arg14)
          ∧ r.2.mem ((c.tc : Thread Cert.CtxRefIdeal.nD Cert.CtxRefIdeal.τ).loc Cert.CtxRefIdeal.main_arg15) = m' ((c.tc : Thread Cert.CtxRefIdeal.nD Cert.CtxRefIdeal.τ).loc Cert.CtxRefIdeal.main_arg15))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hMla : Cert.Mla.Facts) (hMlaIdeal : Cert.MlaIdeal.Facts) (hMlaRefIdeal : Cert.MlaRefIdeal.Facts) (hGlu : Cert.Glu.Facts) (hGluIdeal : Cert.GluIdeal.Facts) (hGluRefIdeal : Cert.GluRefIdeal.Facts) (hOutProj : Cert.OutProj.Facts) (hOutProjIdeal : Cert.OutProjIdeal.Facts) (hOutProjRefIdeal : Cert.OutProjRefIdeal.Facts) (hTail : Cert.Tail.Facts) (hTailIdeal : Cert.TailIdeal.Facts) (hTailRefIdeal : Cert.TailRefIdeal.Facts) (hLat : Cert.Lat.Facts) (hLatIdeal : Cert.LatIdeal.Facts) (hLatRefIdeal : Cert.LatRefIdeal.Facts) (hCtx : Cert.Ctx.Facts) (hCtxIdeal : Cert.CtxIdeal.Facts) (hCtxRefIdeal : Cert.CtxRefIdeal.Facts) (hAda : Cert.Ada.Facts) (hAdaIdeal : Cert.AdaIdeal.Facts) (hAdaRefIdeal : Cert.AdaRefIdeal.Facts) (hPre_finite_scores : Cert.Pre_finite_scores.Facts),
    quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ quiescent_Glu (hGlu := hGlu)
    ∧ quiescent_GluIdeal (hGluIdeal := hGluIdeal)
    ∧ quiescent_GluRefIdeal (hGluRefIdeal := hGluRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Tail (hTail := hTail)
    ∧ quiescent_TailIdeal (hTailIdeal := hTailIdeal)
    ∧ quiescent_TailRefIdeal (hTailRefIdeal := hTailRefIdeal)
    ∧ quiescent_Lat (hLat := hLat)
    ∧ quiescent_LatIdeal (hLatIdeal := hLatIdeal)
    ∧ quiescent_LatRefIdeal (hLatRefIdeal := hLatRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Ada (hAda := hAda)
    ∧ quiescent_AdaIdeal (hAdaIdeal := hAdaIdeal)
    ∧ quiescent_AdaRefIdeal (hAdaRefIdeal := hAdaRefIdeal)
    ∧ preserves_Mla_MlaIdeal
    ∧ algebraic_MlaIdeal_MlaRefIdeal_pre_finite_scores (hMlaIdeal := hMlaIdeal) (hMlaRefIdeal := hMlaRefIdeal) (hPre_finite_scores := hPre_finite_scores)
    ∧ preserves_Glu_GluIdeal
    ∧ algebraic_GluIdeal_GluRefIdeal (hGluIdeal := hGluIdeal) (hGluRefIdeal := hGluRefIdeal)
    ∧ preserves_OutProj_OutProjIdeal
    ∧ algebraic_OutProjIdeal_OutProjRefIdeal (hOutProjIdeal := hOutProjIdeal) (hOutProjRefIdeal := hOutProjRefIdeal)
    ∧ preserves_Tail_TailIdeal
    ∧ algebraic_TailIdeal_TailRefIdeal (hTailIdeal := hTailIdeal) (hTailRefIdeal := hTailRefIdeal)
    ∧ preserves_Lat_LatIdeal
    ∧ algebraic_LatIdeal_LatRefIdeal (hLatIdeal := hLatIdeal) (hLatRefIdeal := hLatRefIdeal)
    ∧ preserves_Ctx_CtxIdeal
    ∧ algebraic_CtxIdeal_CtxRefIdeal (hCtxIdeal := hCtxIdeal) (hCtxRefIdeal := hCtxRefIdeal)
    ∧ preserves_Ada_AdaIdeal
    ∧ algebraic_AdaIdeal_AdaRefIdeal (hAdaIdeal := hAdaIdeal) (hAdaRefIdeal := hAdaRefIdeal)
-- ==== Pre_finite_scores.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S8x256x512 : Shape := ⟨3, ![8, 256, 512]⟩
abbrev S_ : Shape := ⟨0, ![]⟩

class Facts : Prop where
  bcast_S_S8x2048x1024 : S_.BroadcastsInDim S8x2048x1024 (![] : Fin 0 → Fin S8x2048x1024.rank)
  bcast_S_S8x256x1024 : S_.BroadcastsInDim S8x256x1024 (![] : Fin 0 → Fin S8x256x1024.rank)

variable [Facts]

def fn {F : FTy → Type} [FloatOps F] (main_arg0 : FVec F S8x2048x1024 .bf16) (main_arg1 : FVec F S8x2048x1024 .bf16) (main_arg2 : FVec F S8x2048x512 .bf16) (main_arg3 : FVec F S8x256x1024 .bf16) (main_arg4 : FVec F S8x256x512 .bf16) : IVec S8x2048x1024 1 × IVec S8x2048x1024 1 × IVec S8x256x1024 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_v3 : FVec F S8x2048x1024 .bf16 := Host.absf main_arg1
  let main_cst_0 : FVec F S_ .bf16 := constant S_ .bf16 0x7F80#16
  let main_v4 : FVec F S8x2048x1024 .bf16 := broadcastInDim S8x2048x1024 ![] bcast_S_S8x2048x1024 main_cst_0
  let main_v5 : IVec S8x2048x1024 1 := cmpf .olt main_v3 main_v4
  let main_v6 : FVec F S8x256x1024 .bf16 := Host.absf main_arg3
  let main_cst_1 : FVec F S_ .bf16 := constant S_ .bf16 0x7F80#16
  let main_v7 : FVec F S8x256x1024 .bf16 := broadcastInDim S8x256x1024 ![] bcast_S_S8x256x1024 main_cst_1
  let main_v8 : IVec S8x256x1024 1 := cmpf .olt main_v6 main_v7
  (main_v2, main_v5, main_v8)
-- ==== Mla.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S8x256x512 : Shape := ⟨3, ![8, 256, 512]⟩
abbrev S1x512x1024 : Shape := ⟨3, ![1, 512, 1024]⟩
abbrev S1x2048x1024 : Shape := ⟨3, ![1, 2048, 1024]⟩
abbrev S1x2048x512 : Shape := ⟨3, ![1, 2048, 512]⟩
abbrev S1x256x1024 : Shape := ⟨3, ![1, 256, 1024]⟩
abbrev S1x256x512 : Shape := ⟨3, ![1, 256, 512]⟩
abbrev S1x512x512 : Shape := ⟨3, ![1, 512, 512]⟩
abbrev S1x128 : Shape := ⟨2, ![1, 128]⟩
abbrev S1x512x128 : Shape := ⟨3, ![1, 512, 128]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x256x1024, .bf16⟩
  | .hbm, ⟨4, _⟩ => ⟨S8x256x512, .bf16⟩
  | .hbm, ⟨5, _⟩ => ⟨S8x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x512, .bf16⟩
  | .local _ .vmem, ⟨9, _⟩ => ⟨S1x256x512, .bf16⟩
  | .local _ .vmem, ⟨10, _⟩ => ⟨S1x512x512, .bf16⟩
  | .local _ .vmem, ⟨11, _⟩ => ⟨S1x512x512, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaRefIdeal.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S8x256x512 : Shape := ⟨3, ![8, 256, 512]⟩
abbrev S8x2048x8x128 : Shape := ⟨4, ![8, 2048, 8, 128]⟩
abbrev S8x8x2048x128 : Shape := ⟨4, ![8, 8, 2048, 128]⟩
abbrev S8x256x8x128 : Shape := ⟨4, ![8, 256, 8, 128]⟩
abbrev S8x8x256x128 : Shape := ⟨4, ![8, 8, 256, 128]⟩
abbrev S8x8x2304x128 : Shape := ⟨4, ![8, 8, 2304, 128]⟩
abbrev S8x256x8x64 : Shape := ⟨4, ![8, 256, 8, 64]⟩
abbrev S8x8x256x64 : Shape := ⟨4, ![8, 8, 256, 64]⟩
abbrev S8x2048x8x64 : Shape := ⟨4, ![8, 2048, 8, 64]⟩
abbrev S8x8x2048x64 : Shape := ⟨4, ![8, 8, 2048, 64]⟩
abbrev S8x8x2304x64 : Shape := ⟨4, ![8, 8, 2304, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x256x1024, .bf16⟩
  | .hbm, ⟨4, _⟩ => ⟨S8x256x512, .bf16⟩
  | .hbm, ⟨5, _⟩ => ⟨S8x2048x1024, .f32⟩
  | .hbm, ⟨6, _⟩ => ⟨S8x2048x8x128, .f32⟩
  | .hbm, ⟨7, _⟩ => ⟨S8x8x2048x128, .f32⟩
  | .hbm, ⟨8, _⟩ => ⟨S8x256x1024, .f32⟩
  | .hbm, ⟨9, _⟩ => ⟨S8x256x8x128, .f32⟩
  | .hbm, ⟨10, _⟩ => ⟨S8x8x256x128, .f32⟩
  | .hbm, ⟨11, _⟩ => ⟨S8x2048x1024, .f32⟩
  | .hbm, ⟨12, _⟩ => ⟨S8x2048x8x128, .f32⟩
  | .hbm, ⟨13, _⟩ => ⟨S8x8x2048x128, .f32⟩
  | .hbm, ⟨14, _⟩ => ⟨S8x8x2304x128, .f32⟩
  | .hbm, ⟨15, _⟩ => ⟨S8x256x512, .f32⟩
  | .hbm, ⟨16, _⟩ => ⟨S8x256x8x64, .f32⟩
  | .hbm, ⟨17, _⟩ => ⟨S8x8x256x64, .f32⟩
  | .hbm, ⟨18, _⟩ => ⟨S8x2048x512, .f32⟩
  | .hbm, ⟨19, _⟩ => ⟨S8x2048x8x64, .f32⟩
  | .hbm, ⟨20, _⟩ => ⟨S8x8x2048x64, .f32⟩
  | .hbm, ⟨21, _⟩ => ⟨S8x8x2304x64, .f32⟩
  | .hbm, ⟨22, _⟩ => ⟨S8x8x2048x2304, .f32⟩
  | .hbm, ⟨23, _⟩ => ⟨S_, .f32⟩
  | .hbm, ⟨24, _⟩ => ⟨S8x8x2048, .f32⟩
  | .hbm, ⟨25, _⟩ => ⟨S_, .f32⟩
  | .hbm, ⟨26, _⟩ => ⟨S8x8x2048, .f32⟩
  | .hbm, ⟨27, _⟩ => ⟨S8x8x2048, .f32⟩
  | .hbm, ⟨28, _⟩ => ⟨S8x8x2048x1, .f32⟩
  | .hbm, ⟨29, _⟩ => ⟨S8x8x2048x2304, .f32⟩
  | .hbm, ⟨30, _⟩ => ⟨S8x8x2048x2304, .f32⟩
  | .hbm, ⟨31, _⟩ => ⟨S8x8x2048x2304, .f32⟩
  | .hbm, ⟨32, _⟩ => ⟨S_, .f32⟩
  | .hbm, ⟨33, _⟩ => ⟨S8x8x2048, .f32⟩
  | .hbm, ⟨34, _⟩ => ⟨S8x8x2048x1, .f32⟩
  | .hbm, ⟨35, _⟩ => ⟨S8x8x2048x2304, .f32⟩
  | .hbm, ⟨36, _⟩ => ⟨S8x8x2048x2304, .f32⟩
  | .hbm, ⟨37, _⟩ => ⟨S8x8x2048x64, .f32⟩
  | .hbm, ⟨38, _⟩ => ⟨S8x2048x8x64, .f32⟩
  | .hbm, ⟨39, _⟩ => ⟨S8x2048x512, .f32⟩
  | .hbm, ⟨40, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Glu.lean ====
abbrev S16384x1024 : Shape := ⟨2, ![16384, 1024]⟩
abbrev S1x1024 : Shape := ⟨2, ![1, 1024]⟩
abbrev S16x1x1024 : Shape := ⟨3, ![16, 1, 1024]⟩
abbrev S1024x2048 : Shape := ⟨2, ![1024, 2048]⟩
abbrev S1x2048 : Shape := ⟨2, ![1, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x2048, .bf16⟩
  | .hbm, ⟨5, _⟩ => ⟨S1x2048, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S16384x1024 : Shape := ⟨2, ![16384, 1024]⟩
abbrev S1x1024 : Shape := ⟨2, ![1, 1024]⟩
abbrev S16x1x1024 : Shape := ⟨3, ![16, 1, 1024]⟩
abbrev S1024x2048 : Shape := ⟨2, ![1024, 2048]⟩
abbrev S1x2048 : Shape := ⟨2, ![1, 2048]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x2048 : Shape := ⟨3, ![8, 2048, 2048]⟩
abbrev S2048 : Shape := ⟨1, ![2048]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x2048, .bf16⟩
  | .hbm, ⟨5, _⟩ => ⟨S1x2048, .f32⟩
  | .hbm, ⟨6, _⟩ => ⟨S8x2048x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S1024x2048, .f32⟩
  | .hbm, ⟨38, _⟩ => ⟨S8x2048x2048, .f32⟩
  | .hbm, ⟨39, _⟩ => ⟨S2048, .f32⟩
  | .hbm, ⟨40, _⟩ => ⟨S1x1x2048, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S_, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== OutProj.lean ====
abbrev S16384x512 : Shape := ⟨2, ![16384, 512]⟩
abbrev S512x1024 : Shape := ⟨2, ![512, 1024]⟩
abbrev S16384x1024 : Shape := ⟨2, ![16384, 1024]⟩
abbrev S16x1x1024 : Shape := ⟨3, ![16, 1, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x1024, .bf16⟩
  | .hbm, ⟨3, _⟩ => ⟨S512x1024, .bf16⟩
  | .hbm, ⟨4, _⟩ => ⟨S16384x1024, .f32⟩
  | .hbm, ⟨5, _⟩ => ⟨S16x1x1024, .f32⟩
  | .hbm, ⟨6, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S16384x512 : Shape := ⟨2, ![16384, 512]⟩
abbrev S512x1024 : Shape := ⟨2, ![512, 1024]⟩
abbrev S16384x1024 : Shape := ⟨2, ![16384, 1024]⟩
abbrev S16x1x1024 : Shape := ⟨3, ![16, 1, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S8x1024 : Shape := ⟨2, ![8, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x1024, .bf16⟩
  | .hbm, ⟨3, _⟩ => ⟨S512x1024, .bf16⟩
  | .hbm, ⟨4, _⟩ => ⟨S16384x1024, .f32⟩
  | .hbm, ⟨5, _⟩ => ⟨S16x1x1024, .f32⟩
  | .hbm, ⟨6, _⟩ => ⟨S16384x1024, .bf16⟩
  | .hbm, ⟨7, _⟩ => ⟨S16384x1024, .f32⟩
  | .hbm, ⟨8, _⟩ => ⟨S1024x1024, .bf16⟩
  | .hbm, ⟨9, _⟩ => ⟨S1024x1024, .f32⟩
  | .hbm, ⟨10, _⟩ => ⟨S16384x1024, .f32⟩
  | .hbm, ⟨11, _⟩ => ⟨S8x2048x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Tail.lean ====
abbrev S8x2048x1024 : Shape := ⟨3, ![8, 2048, 1024]⟩
abbrev S31x1024 : Shape := ⟨2, ![31, 1024]⟩
abbrev S1x1024 : Shape := ⟨2, ![1, 1024]⟩
abbrev S1024x1024 : Shape := ⟨2, ![1024, 1024]⟩
abbrev S16x1x1024 : Shape := ⟨3, ![16, 1, 1024]⟩
abbrev S1x16x1024 : Shape := ⟨3, ![1, 16, 1024]⟩
abbrev S1x256x1024 : Shape := ⟨3, ![1, 256, 1024]⟩
abbrev S1x1x1024 : Shape := ⟨3, ![1, 1, 1024]⟩
abbrev S288x1024 : Shape := ⟨2, ![288, 1024]⟩
abbrev S280x1024 : Shape := ⟨2, ![280, 1024]⟩
abbrev S16x1024 : Shape := ⟨2, ![16, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S8x2048x1024, .f32⟩
  | .hbm, ⟨8, _⟩ => ⟨S16x1x1024, .f32⟩
  | .hbm, ⟨9, _⟩ => ⟨S8x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x16x1024, .f32⟩
  | .local _ .vmem, ⟨5, _⟩ => ⟨S1x16x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | .local _ .vmem, ⟨18, _⟩ => ⟨S288x1024, .f32⟩
  | .local _ .vmem, ⟨19, _⟩ => ⟨S280x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== TailRefIdeal.lean ====
abbrev S8x2048x1024 : Shape := ⟨3, ![8, 2048, 1024]⟩
abbrev S31x1024 : Shape := ⟨2, ![31, 1024]⟩
abbrev S1x1024 : Shape := ⟨2, ![1, 1024]⟩
abbrev S1024x1024 : Shape := ⟨2, ![1024, 1024]⟩
abbrev S16x1x1024 : Shape := ⟨3, ![16, 1, 1024]⟩
abbrev S_ : Shape := ⟨0, ![]⟩
abbrev S8x2078x1024 : Shape := ⟨3, ![8, 2078, 1024]⟩
abbrev S1024 : Shape := ⟨1, ![1024]⟩
abbrev S1x1x1024 : Shape := ⟨3, ![1, 1, 1024]⟩
abbrev S8x2048 : Shape := ⟨2, ![8, 2048]⟩
abbrev S8x2048x1 : Shape := ⟨3, ![8, 2048, 1]⟩
abbrev S8x1x1024 : Shape := ⟨3, ![8, 1, 1024]⟩
abbrev S8x1024 : Shape := ⟨2, ![8, 1024]⟩

abbrev nBuf : Space → Nat
  | .hbm => 284
  | .vmem => 0
  | .smem => 0
  | _ => 0

abbrev hbmTy0_0 (i : Nat) : BufTy := match i % 128 with
  | 0 => ⟨S8x2048x1024, .f32⟩
  | 1 => ⟨S31x1024, .f32⟩
  | 2 => ⟨S1x1024, .f32⟩
  | 3 => ⟨S1x1024, .f32⟩
  | 4 => ⟨S1x1024, .f32⟩
  | 5 => ⟨S1024x1024, .bf16⟩
  | 6 => ⟨S1x1024, .f32⟩
  | 7 => ⟨S8x2048x1024, .f32⟩
  | 8 => ⟨S16x1x1024, .f32⟩
  | 9 => ⟨S_, .i32⟩
  | 10 => ⟨S_, .f32⟩
  | 11 => ⟨S8x2078x1024, .f32⟩
  | 12 => ⟨S8x2048x1024, .f32⟩
  | 13 => ⟨S1x1024, .f32⟩
  | 14 => ⟨S1024, .f32⟩
  | 15 => ⟨S1x1x1024, .f32⟩
  | 16 => ⟨S8x2048x1024, .f32⟩
  | 17 => ⟨S8x2048x1024, .f32⟩
  | 18 => ⟨S8x2048x1024, .f32⟩
  | 19 => ⟨S1x1024, .f32⟩
  | 20 => ⟨S1024, .f32⟩
  | 21 => ⟨S1x1x1024, .f32⟩
  | 22 => ⟨S8x2048x1024, .f32⟩
  | 23 => ⟨S8x2048x1024, .f32⟩
  | 24 => ⟨S8x2048x1024, .f32⟩
  | 25 => ⟨S8x2048x1024, .f32⟩
  | 26 => ⟨S1x1024, .f32⟩
  | 27 => ⟨S1024, .f32⟩
  | 28 => ⟨S1x1x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S1x1024, .f32⟩
  | 41 => ⟨S1024, .f32⟩
  | 42 => ⟨S1x1x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S1x1024, .f32⟩
  | 48 => ⟨S1024, .f32⟩
  | 49 => ⟨S1x1x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S1x1024, .f32⟩
  | 55 => ⟨S1024, .f32⟩
  | 56 => ⟨S1x1x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S1x1024, .f32⟩
  | 62 => ⟨S1024, .f32⟩
  | 63 => ⟨S1x1x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S1x1024, .f32⟩
  | 69 => ⟨S1024, .f32⟩
  | 70 => ⟨S1x1x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S1x1024, .f32⟩
  | 76 => ⟨S1024, .f32⟩
  | 77 => ⟨S1x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S1x1024, .f32⟩
  | 83 => ⟨S1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S1x1024, .f32⟩
  | 97 => ⟨S1024, .f32⟩
  | 98 => ⟨S1x1x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S1x1024, .f32⟩
  | 104 => ⟨S1024, .f32⟩
  | 105 => ⟨S1x1x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S1x1024, .f32⟩
  | 111 => ⟨S1024, .f32⟩
  | 112 => ⟨S1x1x1024, .f32⟩
  | 113 => ⟨S8x2048x1024, .f32⟩
  | 114 => ⟨S8x2048x1024, .f32⟩
  | 115 => ⟨S8x2048x1024, .f32⟩
  | 116 => ⟨S8x2048x1024, .f32⟩
  | 117 => ⟨S1x1024, .f32⟩
  | 118 => ⟨S1024, .f32⟩
  | 119 => ⟨S1x1x1024, .f32⟩
  | 120 => ⟨S8x2048x1024, .f32⟩
  | 121 => ⟨S8x2048x1024, .f32⟩
  | 122 => ⟨S8x2048x1024, .f32⟩
  | 123 => ⟨S8x2048x1024, .f32⟩
  | 124 => ⟨S1x1024, .f32⟩
  | 125 => ⟨S1024, .f32⟩
  | 126 => ⟨S1x1x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S1x1024, .f32⟩
  | 4 => ⟨S1024, .f32⟩
  | 5 => ⟨S1x1x1024, .f32⟩
  | 6 => ⟨S8x2048x1024, .f32⟩
  | 7 => ⟨S8x2048x1024, .f32⟩
  | 8 => ⟨S8x2048x1024, .f32⟩
  | 9 => ⟨S8x2048x1024, .f32⟩
  | 10 => ⟨S1x1024, .f32⟩
  | 11 => ⟨S1024, .f32⟩
  | 12 => ⟨S1x1x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S1x1024, .f32⟩
  | 18 => ⟨S1024, .f32⟩
  | 19 => ⟨S1x1x1024, .f32⟩
  | 20 => ⟨S8x2048x1024, .f32⟩
  | 21 => ⟨S8x2048x1024, .f32⟩
  | 22 => ⟨S8x2048x1024, .f32⟩
  | 23 => ⟨S8x2048x1024, .f32⟩
  | 24 => ⟨S1x1024, .f32⟩
  | 25 => ⟨S1024, .f32⟩
  | 26 => ⟨S1x1x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S1x1024, .f32⟩
  | 32 => ⟨S1024, .f32⟩
  | 33 => ⟨S1x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S1x1024, .f32⟩
  | 39 => ⟨S1024, .f32⟩
  | 40 => ⟨S1x1x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S1x1024, .f32⟩
  | 46 => ⟨S1024, .f32⟩
  | 47 => ⟨S1x1x1024, .f32⟩
  | 48 => ⟨S8x2048x1024, .f32⟩
  | 49 => ⟨S8x2048x1024, .f32⟩
  | 50 => ⟨S8x2048x1024, .f32⟩
  | 51 => ⟨S8x2048x1024, .f32⟩
  | 52 => ⟨S1x1024, .f32⟩
  | 53 => ⟨S1024, .f32⟩
  | 54 => ⟨S1x1x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S1x1024, .f32⟩
  | 60 => ⟨S1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S1x1024, .f32⟩
  | 67 => ⟨S1024, .f32⟩
  | 68 => ⟨S1x1x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S1x1024, .f32⟩
  | 74 => ⟨S1024, .f32⟩
  | 75 => ⟨S1x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S1x1024, .f32⟩
  | 81 => ⟨S1024, .f32⟩
  | 82 => ⟨S1x1x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S1x1024, .f32⟩
  | 88 => ⟨S1024, .f32⟩
  | 89 => ⟨S1x1x1024, .f32⟩
  | 90 => ⟨S8x2048x1024, .f32⟩
  | 91 => ⟨S8x2048x1024, .f32⟩
  | 92 => ⟨S8x2048x1024, .f32⟩
  | 93 => ⟨S8x2048x1024, .f32⟩
  | 94 => ⟨S1x1024, .f32⟩
  | 95 => ⟨S1024, .f32⟩
  | 96 => ⟨S1x1x1024, .f32⟩
  | 97 => ⟨S8x2048x1024, .f32⟩
  | 98 => ⟨S8x2048x1024, .f32⟩
  | 99 => ⟨S8x2048x1024, .f32⟩
  | 100 => ⟨S1024, .f32⟩
  | 101 => ⟨S1x1x1024, .f32⟩
  | 102 => ⟨S8x2048x1024, .f32⟩
  | 103 => ⟨S8x2048x1024, .f32⟩
  | 104 => ⟨S1024, .f32⟩
  | 105 => ⟨S1024, .f32⟩
  | 106 => ⟨S_, .f32⟩
  | 107 => ⟨S8x2048, .f32⟩
  | 108 => ⟨S8x2048x1, .f32⟩
  | 109 => ⟨S_, .f32⟩
  | 110 => ⟨S8x2048x1, .f32⟩
  | 111 => ⟨S8x2048x1, .f32⟩
  | 112 => ⟨S8x2048x1024, .f32⟩
  | 113 => ⟨S8x2048x1024, .f32⟩
  | 114 => ⟨S8x2048x1024, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S8x2048x1024, .f32⟩
  | 122 => ⟨S8x2048x1024, .f32⟩
  | 123 => ⟨S_, .f32⟩
  | 124 => ⟨S8x2048x1, .f32⟩
  | 125 => ⟨S8x2048x1, .f32⟩
  | 126 => ⟨S8x2048x1, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S1x1x1024, .f32⟩
  | 2 => ⟨S8x2048x1024, .f32⟩
  | 3 => ⟨S8x2048x1024, .f32⟩
  | 4 => ⟨S1x1x1024, .f32⟩
  | 5 => ⟨S8x2048x1024, .f32⟩
  | 6 => ⟨S8x2048x1024, .f32⟩
  | 7 => ⟨S8x2048x1024, .f32⟩
  | 8 => ⟨S8x2048x1024, .f32⟩
  | 9 => ⟨S_, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S8x2048x1024, .f32⟩
  | 16 => ⟨S1024x1024, .f32⟩
  | 17 => ⟨S8x2048x1024, .f32⟩
  | 18 => ⟨S1024, .f32⟩
  | 19 => ⟨S1x1x1024, .f32⟩
  | 20 => ⟨S8x2048x1024, .f32⟩
  | 21 => ⟨S8x2048x1024, .f32⟩
  | 22 => ⟨S8x1x1024, .f32⟩
  | 23 => ⟨S8x1024, .f32⟩
  | 24 => ⟨S8x1x1024, .f32⟩
  | 25 => ⟨S8x2048x1024, .f32⟩
  | 26 => ⟨S8x2048x1024, .f32⟩
  | 27 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_cst : Ref sig .tc := ⟨.hbm, 234, rfl⟩
abbrev main_v223 : Ref sig .tc := ⟨.hbm, 235, rfl⟩
abbrev main_v224 : Ref sig .tc := ⟨.hbm, 236, rfl⟩
abbrev main_cst_0 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_cst_1 : Ref sig .tc := ⟨.hbm, 243, rfl⟩
abbrev main_v230 : Ref sig .tc := ⟨.hbm, 244, rfl⟩
abbrev main_v231 : Ref sig .tc := ⟨.hbm, 245, rfl⟩
abbrev main_cst_2 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_cst_3 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_call1_v0 : Ref sig .tc := ⟨.hbm, 263, rfl⟩
abbrev main_call1_v1 : Ref sig .tc := ⟨.hbm, 264, rfl⟩
abbrev main_call1_cst : Ref sig .tc := ⟨.hbm, 265, rfl⟩
abbrev main_call1_v2 : Ref sig .tc := ⟨.hbm, 266, rfl⟩
abbrev main_call1_v3 : Ref sig .tc := ⟨.hbm, 267, rfl⟩
abbrev main_call1_cst_0 : Ref sig .tc := ⟨.hbm, 268, rfl⟩
abbrev main_call1_v4 : Ref sig .tc := ⟨.hbm, 269, rfl⟩
abbrev main_call1_v5 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩

abbrev nD : Nat := 1
abbrev τ : Topo := Topo.v7x

variable {F : FTy → Type} [FloatOps F]
-- ==== Lat.lean ====
abbrev S16384x1024 : Shape := ⟨2, ![16384, 1024]⟩
abbrev S1x1024 : Shape := ⟨2, ![1, 1024]⟩
abbrev S16x1x1024 : Shape := ⟨3, ![16, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S2048x128 : Shape := ⟨2, ![2048, 128]⟩
abbrev S16384x512 : Shape := ⟨2, ![16384, 512]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩
abbrev S256x384 : Shape := ⟨2, ![256, 384]⟩
abbrev S256x256 : Shape := ⟨2, ![256, 256]⟩

abbrev nBuf : Space → Nat
  | .hbm => 22
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x1024, .bf16⟩
  | .hbm, ⟨9, _⟩ => ⟨S256x512, .bf16⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S16384x1024, .bf16⟩
  | .hbm, ⟨17, _⟩ => ⟨S16384x1024, .bf16⟩
  | .hbm, ⟨18, _⟩ => ⟨S16384x512, .bf16⟩
  | .hbm, ⟨19, _⟩ => ⟨S16384x512, .bf16⟩
  | .hbm, ⟨20, _⟩ => ⟨S16384x512, .bf16⟩
  | .hbm, ⟨21, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2304, .bf16⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S256x512, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== LatIdeal.lean ====
variable {F : FTy → Type} [FloatOps F] [Named F]
def κ : String → Option EReal := fun
  | "r96" => some ((96⁻¹ : ℝ) : EReal)
  | _ => none
-- ==== LatRefIdeal.lean ====
abbrev S16384x1024 : Shape := ⟨2, ![16384, 1024]⟩
abbrev S1x1024 : Shape := ⟨2, ![1, 1024]⟩
abbrev S16x1x1024 : Shape := ⟨3, ![16, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S2048x128 : Shape := ⟨2, ![2048, 128]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x2304 : Shape := ⟨3, ![8, 2048, 2304]⟩
abbrev S8x2048x384 : Shape := ⟨3, ![8, 2048, 384]⟩
abbrev S8x2048x256 : Shape := ⟨3, ![8, 2048, 256]⟩
abbrev S8x2048x128 : Shape := ⟨3, ![8, 2048, 128]⟩
abbrev S8x2048x1536 : Shape := ⟨3, ![8, 2048, 1536]⟩
abbrev S384 : Shape := ⟨1, ![384]⟩
abbrev S1x1x384 : Shape := ⟨3, ![1, 1, 384]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x8x64 : Shape := ⟨4, ![8, 2048, 8, 64]⟩
abbrev S2048x1x128 : Shape := ⟨3, ![2048, 1, 128]⟩
abbrev S1x2048x1x128 : Shape := ⟨4, ![1, 2048, 1, 128]⟩
abbrev S256 : Shape := ⟨1, ![256]⟩
abbrev S1x1x256 : Shape := ⟨3, ![1, 1, 256]⟩
abbrev S8x2048x1x128 : Shape := ⟨4, ![8, 2048, 1, 128]⟩
abbrev S8x2048x512 : Shape := ⟨3, ![8, 2048, 512]⟩
abbrev S8x2048x12x2x64 : Shape := ⟨5, ![8, 2048, 12, 2, 64]⟩
abbrev S8x2048x4x2x64 : Shape := ⟨5, ![8, 2048, 4, 2, 64]⟩
abbrev S2x64 : Shape := ⟨2, ![2, 64]⟩
abbrev S8x2048x4x2 : Shape := ⟨4, ![8, 2048, 4, 2]⟩
abbrev S8x2048x4x2x1 : Shape := ⟨5, ![8, 2048, 4, 2, 1]⟩
abbrev S1x1x1x2x64 : Shape := ⟨5, ![1, 1, 1, 2, 64]⟩
abbrev S16384x512 : Shape := ⟨2, ![16384, 512]⟩

abbrev nBuf : Space → Nat
  | .hbm => 223
  | .vmem => 0
  | .smem => 0
  | _ => 0

abbrev hbmTy0_0 (i : Nat) : BufTy := match i % 128 with
  | 0 => ⟨S16384x1024, .f32⟩
  | 1 => ⟨S1x1024, .f32⟩
  | 2 => ⟨S16x1x1024, .f32⟩
  | 3 => ⟨S16x1x1024, .f32⟩
  | 4 => ⟨S1024x2304, .bf16⟩
  | 5 => ⟨S1x384, .f32⟩
  | 6 => ⟨S384x1024, .bf16⟩
  | 7 => ⟨S1x256, .f32⟩
  | 8 => ⟨S256x1024, .bf16⟩
  | 9 => ⟨S256x512, .bf16⟩
  | 10 => ⟨S1x128, .f32⟩
  | 11 => ⟨S1x128, .f32⟩
  | 12 => ⟨S1x128, .f32⟩
  | 13 => ⟨S1x128, .f32⟩
  | 14 => ⟨S2048x128, .f32⟩
  | 15 => ⟨S2048x128, .f32⟩
  | 16 => ⟨S8x2048x1024, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x1x1024, .f32⟩
  | 35 => ⟨S8x1024, .f32⟩
  | 36 => ⟨S8x1x1024, .f32⟩
  | 37 => ⟨S8x1024, .f32⟩
  | 38 => ⟨S8x1x1024, .f32⟩
  | 39 => ⟨S_, .f32⟩
  | 40 => ⟨S8x1x1024, .f32⟩
  | 41 => ⟨S8x1x1024, .f32⟩
  | 42 => ⟨S8x2048x1024, .f32⟩
  | 43 => ⟨S8x2048x1024, .f32⟩
  | 44 => ⟨S8x1x1024, .f32⟩
  | 45 => ⟨S8x2048x1024, .f32⟩
  | 46 => ⟨S8x2048x1024, .f32⟩
  | 47 => ⟨S1024x2304, .f32⟩
  | 48 => ⟨S8x2048x2304, .f32⟩
  | 49 => ⟨S8x2048x384, .f32⟩
  | 50 => ⟨S8x2048x256, .f32⟩
  | 51 => ⟨S8x2048x128, .f32⟩
  | 52 => ⟨S8x2048x1536, .f32⟩
  | 53 => ⟨S384, .f32⟩
  | 54 => ⟨S8x2048x384, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S_, .f32⟩
  | 62 => ⟨S8x2048x1, .f32⟩
  | 63 => ⟨S8x2048x1, .f32⟩
  | 64 => ⟨S8x2048x1, .f32⟩
  | 65 => ⟨S8x2048x384, .f32⟩
  | 66 => ⟨S8x2048x384, .f32⟩
  | 67 => ⟨S1x1x384, .f32⟩
  | 68 => ⟨S8x2048x384, .f32⟩
  | 69 => ⟨S8x2048x384, .f32⟩
  | 70 => ⟨S384x1024, .f32⟩
  | 71 => ⟨S8x2048x1024, .f32⟩
  | 72 => ⟨S8x2048x8x128, .f32⟩
  | 73 => ⟨S128, .f32⟩
  | 74 => ⟨S8x2048x8x128, .f32⟩
  | 75 => ⟨S_, .f32⟩
  | 76 => ⟨S8x2048x8, .f32⟩
  | 77 => ⟨S8x2048x8x1, .f32⟩
  | 78 => ⟨S_, .f32⟩
  | 79 => ⟨S8x2048x8x1, .f32⟩
  | 80 => ⟨S8x2048x8x1, .f32⟩
  | 81 => ⟨S_, .f32⟩
  | 82 => ⟨S8x2048x8x1, .f32⟩
  | 83 => ⟨S8x2048x8x1, .f32⟩
  | 84 => ⟨S8x2048x8x1, .f32⟩
  | 85 => ⟨S8x2048x8x128, .f32⟩
  | 86 => ⟨S8x2048x8x128, .f32⟩
  | 87 => ⟨S1x1x1x128, .f32⟩
  | 88 => ⟨S8x2048x8x128, .f32⟩
  | 89 => ⟨S8x2048x8x128, .f32⟩
  | 90 => ⟨S8x2048x8x64, .f32⟩
  | 91 => ⟨S8x2048x8x64, .f32⟩
  | 92 => ⟨S2048x1x128, .f32⟩
  | 93 => ⟨S1x2048x1x128, .f32⟩
  | 94 => ⟨S8x2048x8x128, .f32⟩
  | 95 => ⟨S8x2048x8x128, .f32⟩
  | 96 => ⟨S8x2048x8x128, .f32⟩
  | 97 => ⟨S2048x1x128, .f32⟩
  | 98 => ⟨S1x2048x1x128, .f32⟩
  | 99 => ⟨S8x2048x8x128, .f32⟩
  | 100 => ⟨S8x2048x8x128, .f32⟩
  | 101 => ⟨S8x2048x8x128, .f32⟩
  | 102 => ⟨S256, .f32⟩
  | 103 => ⟨S8x2048x256, .f32⟩
  | 104 => ⟨S_, .f32⟩
  | 105 => ⟨S8x2048, .f32⟩
  | 106 => ⟨S8x2048x1, .f32⟩
  | 107 => ⟨S_, .f32⟩
  | 108 => ⟨S8x2048x1, .f32⟩
  | 109 => ⟨S8x2048x1, .f32⟩
  | 110 => ⟨S_, .f32⟩
  | 111 => ⟨S8x2048x1, .f32⟩
  | 112 => ⟨S8x2048x1, .f32⟩
  | 113 => ⟨S8x2048x1, .f32⟩
  | 114 => ⟨S8x2048x256, .f32⟩
  | 115 => ⟨S8x2048x256, .f32⟩
  | 116 => ⟨S1x1x256, .f32⟩
  | 117 => ⟨S8x2048x256, .f32⟩
  | 118 => ⟨S8x2048x256, .f32⟩
  | 119 => ⟨S256x1024, .f32⟩
  | 120 => ⟨S8x2048x1024, .f32⟩
  | 121 => ⟨S8x2048x8x128, .f32⟩
  | 122 => ⟨S8x2048x1x128, .f32⟩
  | 123 => ⟨S8x2048x8x128, .f32⟩
  | 124 => ⟨S8x2048x8x128, .f32⟩
  | 125 => ⟨S128, .f32⟩
  | 126 => ⟨S8x2048x8x128, .f32⟩
  | 127 => ⟨S_, .f32⟩
  | _ => ⟨S16384x1024, .f32⟩

abbrev hbmTy0_1 (i : Nat) : BufTy := match i % 128 with
  | 0 => ⟨S8x2048x8, .f32⟩
  | 1 => ⟨S8x2048x8x1, .f32⟩
  | 2 => ⟨S_, .f32⟩
  | 3 => ⟨S8x2048x8x1, .f32⟩
  | 4 => ⟨S8x2048x8x1, .f32⟩
  | 5 => ⟨S_, .f32⟩
  | 6 => ⟨S8x2048x8x1, .f32⟩
  | 7 => ⟨S8x2048x8x1, .f32⟩
  | 8 => ⟨S8x2048x8x1, .f32⟩
  | 9 => ⟨S8x2048x8x128, .f32⟩
  | 10 => ⟨S8x2048x8x128, .f32⟩
  | 11 => ⟨S1x1x1x128, .f32⟩
  | 12 => ⟨S8x2048x8x128, .f32⟩
  | 13 => ⟨S8x2048x8x128, .f32⟩
  | 14 => ⟨S8x2048x8x64, .f32⟩
  | 15 => ⟨S8x2048x8x64, .f32⟩
  | 16 => ⟨S2048x1x128, .f32⟩
  | 17 => ⟨S1x2048x1x128, .f32⟩
  | 18 => ⟨S8x2048x8x128, .f32⟩
  | 19 => ⟨S8x2048x8x128, .f32⟩
  | 20 => ⟨S8x2048x8x128, .f32⟩
  | 21 => ⟨S2048x1x128, .f32⟩
  | 22 => ⟨S1x2048x1x128, .f32⟩
  | 23 => ⟨S8x2048x8x128, .f32⟩
  | 24 => ⟨S8x2048x8x128, .f32⟩
  | 25 => ⟨S8x2048x8x128, .f32⟩
  | 26 => ⟨S256, .f32⟩
  | 27 => ⟨S8x2048x256, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .f32⟩
  | 35 => ⟨S8x2048x1, .f32⟩
  | 36 => ⟨S8x2048x1, .f32⟩
  | 37 => ⟨S8x2048x1, .f32⟩
  | 38 => ⟨S8x2048x256, .f32⟩
  | 39 => ⟨S8x2048x256, .f32⟩
  | 40 => ⟨S1x1x256, .f32⟩
  | 41 => ⟨S8x2048x256, .f32⟩
  | 42 => ⟨S8x2048x256, .f32⟩
  | 43 => ⟨S256x512, .f32⟩
  | 44 => ⟨S8x2048x512, .f32⟩
  | 45 => ⟨S8x2048x12x2x64, .f32⟩
  | 46 => ⟨S8x2048x4x2x64, .f32⟩
  | 47 => ⟨S8x2048x4x2x64, .f32⟩
  | 48 => ⟨S8x2048x4x2x64, .f32⟩
  | 49 => ⟨S2x64, .f32⟩
  | 50 => ⟨S8x2048x4x2x64, .f32⟩
  | 51 => ⟨S_, .f32⟩
  | 52 => ⟨S8x2048x4x2, .f32⟩
  | 53 => ⟨S8x2048x4x2x1, .f32⟩
  | 54 => ⟨S_, .f32⟩
  | 55 => ⟨S8x2048x4x2x1, .f32⟩
  | 56 => ⟨S8x2048x4x2x1, .f32⟩
  | 57 => ⟨S_, .f32⟩
  | 58 => ⟨S8x2048x4x2x1, .f32⟩
  | 59 => ⟨S8x2048x4x2x1, .f32⟩
  | 60 => ⟨S8x2048x4x2x1, .f32⟩
  | 61 => ⟨S8x2048x4x2x64, .f32⟩
  | 62 => ⟨S8x2048x4x2x64, .f32⟩
  | 63 => ⟨S1x1x1x2x64, .f32⟩
  | 64 => ⟨S8x2048x4x2x64, .f32⟩
  | 65 => ⟨S8x2048x4x2x64, .f32⟩
  | 66 => ⟨S2x64, .f32⟩
  | 67 => ⟨S8x2048x4x2x64, .f32⟩
  | 68 => ⟨S_, .f32⟩
  | 69 => ⟨S8x2048x4x2, .f32⟩
  | 70 => ⟨S8x2048x4x2x1, .f32⟩
  | 71 => ⟨S_, .f32⟩
  | 72 => ⟨S8x2048x4x2x1, .f32⟩
  | 73 => ⟨S8x2048x4x2x1, .f32⟩
  | 74 => ⟨S_, .f32⟩
  | 75 => ⟨S8x2048x4x2x1, .f32⟩
  | 76 => ⟨S8x2048x4x2x1, .f32⟩
  | 77 => ⟨S8x2048x4x2x1, .f32⟩
  | 78 => ⟨S8x2048x4x2x64, .f32⟩
  | 79 => ⟨S8x2048x4x2x64, .f32⟩
  | 80 => ⟨S1x1x1x2x64, .f32⟩
  | 81 => ⟨S8x2048x4x2x64, .f32⟩
  | 82 => ⟨S8x2048x4x2x64, .f32⟩
  | 83 => ⟨S16384x1024, .f32⟩
  | 84 => ⟨S16384x1024, .bf16⟩
  | 85 => ⟨S16384x1024, .f32⟩
  | 86 => ⟨S16384x1024, .bf16⟩
  | 87 => ⟨S16384x512, .f32⟩
  | 88 => ⟨S16384x512, .bf16⟩
  | 89 => ⟨S16384x512, .f32⟩
  | 90 => ⟨S16384x512, .bf16⟩
  | 91 => ⟨S16384x512, .f32⟩
  | 92 => ⟨S16384x512, .bf16⟩
  | 93 => ⟨S16384x512, .f32⟩
  | 94 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_v81 : Ref sig .tc := ⟨.hbm, 109, rfl⟩
abbrev main_cst_11 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_12 : Ref sig .tc := ⟨.hbm, 127, rfl⟩
abbrev main_v98 : Ref sig .tc := ⟨.hbm, 128, rfl⟩
abbrev main_v99 : Ref sig .tc := ⟨.hbm, 129, rfl⟩
abbrev main_cst_13 : Ref sig .tc := ⟨.hbm, 130, rfl⟩
abbrev main_v100 : Ref sig .tc := ⟨.hbm, 131, rfl⟩
abbrev main_v101 : Ref sig .tc := ⟨.hbm, 132, rfl⟩
abbrev main_cst_14 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_15 : Ref sig .tc := ⟨.hbm, 156, rfl⟩
abbrev main_v124 : Ref sig .tc := ⟨.hbm, 157, rfl⟩
abbrev main_v125 : Ref sig .tc := ⟨.hbm, 158, rfl⟩
abbrev main_cst_16 : Ref sig .tc := ⟨.hbm, 159, rfl⟩
abbrev main_v126 : Ref sig .tc := ⟨.hbm, 160, rfl⟩
abbrev main_v127 : Ref sig .tc := ⟨.hbm, 161, rfl⟩
abbrev main_cst_17 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_18 : Ref sig .tc := ⟨.hbm, 179, rfl⟩
abbrev main_v144 : Ref sig .tc := ⟨.hbm, 180, rfl⟩
abbrev main_v145 : Ref sig .tc := ⟨.hbm, 181, rfl⟩
abbrev main_cst_19 : Ref sig .tc := ⟨.hbm, 182, rfl⟩
abbrev main_v146 : Ref sig .tc := ⟨.hbm, 183, rfl⟩
abbrev main_v147 : Ref sig .tc := ⟨.hbm, 184, rfl⟩
abbrev main_cst_20 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_21 : Ref sig .tc := ⟨.hbm, 196, rfl⟩
abbrev main_v158 : Ref sig .tc := ⟨.hbm, 197, rfl⟩
abbrev main_v159 : Ref sig .tc := ⟨.hbm, 198, rfl⟩
abbrev main_cst_22 : Ref sig .tc := ⟨.hbm, 199, rfl⟩
abbrev main_v160 : Ref sig .tc := ⟨.hbm, 200, rfl⟩
abbrev main_v161 : Ref sig .tc := ⟨.hbm, 201, rfl⟩
abbrev main_cst_23 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩

abbrev nD : Nat := 1
abbrev τ : Topo := Topo.v7x

variable {F : FTy → Type} [FloatOps F]
-- ==== Ctx.lean ====
abbrev S2048x1024 : Shape := ⟨2, ![2048, 1024]⟩
abbrev S1x1024 : Shape := ⟨2, ![1, 1024]⟩
abbrev S16x1x1024 : Shape := ⟨3, ![16, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S256x128 : Shape := ⟨2, ![256, 128]⟩
abbrev S2048x512 : Shape := ⟨2, ![2048, 512]⟩
abbrev S1x1x1024 : Shape := ⟨3, ![1, 1, 1024]⟩
abbrev S256 : Shape := ⟨1, ![256]⟩
abbrev S256x1 : Shape := ⟨2, ![256, 1]⟩
abbrev S256x2304 : Shape := ⟨2, ![256, 2304]⟩
abbrev S256x256 : Shape := ⟨2, ![256, 256]⟩

abbrev nBuf : Space → Nat
  | .hbm => 20
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S256x1024, .bf16⟩
  | .hbm, ⟨9, _⟩ => ⟨S256x512, .bf16⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S256x128, .f32⟩
  | .hbm, ⟨15, _⟩ => ⟨S256x128, .f32⟩
  | .hbm, ⟨16, _⟩ => ⟨S2048x1024, .bf16⟩
  | .hbm, ⟨17, _⟩ => ⟨S2048x512, .bf16⟩
  | .hbm, ⟨18, _⟩ => ⟨S2048x512, .bf16⟩
  | .hbm, ⟨19, _⟩ => ⟨S2048x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x2304, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x1024, .bf16⟩
  | .local _ .vmem, ⟨10, _⟩ => ⟨S256x512, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== CtxIdeal.lean ====
variable {F : FTy → Type} [FloatOps F] [Named F]
def κ : String → Option EReal := fun
  | "r96" => some ((96⁻¹ : ℝ) : EReal)
  | _ => none
-- ==== CtxRefIdeal.lean ====
abbrev S2048x1024 : Shape := ⟨2, ![2048, 1024]⟩
abbrev S1x1024 : Shape := ⟨2, ![1, 1024]⟩
abbrev S16x1x1024 : Shape := ⟨3, ![16, 1, 1024]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S256x1024 : Shape := ⟨2, ![256, 1024]⟩
abbrev S256x512 : Shape := ⟨2, ![256, 512]⟩
abbrev S1x128 : Shape := ⟨2, ![1, 128]⟩
abbrev S256x128 : Shape := ⟨2, ![256, 128]⟩
abbrev S8x256x1024 : Shape := ⟨3, ![8, 256, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2304 : Shape := ⟨3, ![8, 256, 2304]⟩
abbrev S8x256x384 : Shape := ⟨3, ![8, 256, 384]⟩
abbrev S8x256x256 : Shape := ⟨3, ![8, 256, 256]⟩
abbrev S8x256x128 : Shape := ⟨3, ![8, 256, 128]⟩
abbrev S8x256x1536 : Shape := ⟨3, ![8, 256, 1536]⟩
abbrev S256 : Shape := ⟨1, ![256]⟩
abbrev S1x1x256 : Shape := ⟨3, ![1, 1, 256]⟩
abbrev S8x256x8x128 : Shape := ⟨4, ![8, 256, 8, 128]⟩
abbrev S8x256x1x128 : Shape := ⟨4, ![8, 256, 1, 128]⟩
abbrev S128 : Shape := ⟨1, ![128]⟩
abbrev S8x256x8 : Shape := ⟨3, ![8, 256, 8]⟩
abbrev S8x256x8x1 : Shape := ⟨4, ![8, 256, 8, 1]⟩
abbrev S1x1x1x128 : Shape := ⟨4, ![1, 1, 1, 128]⟩
abbrev S8x256x512 : Shape := ⟨3, ![8, 256, 512]⟩
abbrev S8x256x12x2x64 : Shape := ⟨5, ![8, 256, 12, 2, 64]⟩
abbrev S8x256x4x2x64 : Shape := ⟨5, ![8, 256, 4, 2, 64]⟩
abbrev S2x64 : Shape := ⟨2, ![2, 64]⟩
abbrev S8x256x4x2 : Shape := ⟨4, ![8, 256, 4, 2]⟩
abbrev S8x256x4x2x1 : Shape := ⟨5, ![8, 256, 4, 2, 1]⟩
abbrev S1x1x1x2x64 : Shape := ⟨5, ![1, 1, 1, 2, 64]⟩
abbrev S2048x512 : Shape := ⟨2, ![2048, 512]⟩

abbrev nBuf : Space → Nat
  | .hbm => 141
  | .vmem => 0
  | .smem => 0
  | _ => 0

abbrev hbmTy0_0 (i : Nat) : BufTy := match i % 128 with
  | 0 => ⟨S2048x1024, .f32⟩
  | 1 => ⟨S1x1024, .f32⟩
  | 2 => ⟨S16x1x1024, .f32⟩
  | 3 => ⟨S16x1x1024, .f32⟩
  | 4 => ⟨S1024x2304, .bf16⟩
  | 5 => ⟨S1x384, .f32⟩
  | 6 => ⟨S384x1024, .bf16⟩
  | 7 => ⟨S1x256, .f32⟩
  | 8 => ⟨S256x1024, .bf16⟩
  | 9 => ⟨S256x512, .bf16⟩
  | 10 => ⟨S1x128, .f32⟩
  | 11 => ⟨S1x128, .f32⟩
  | 12 => ⟨S1x128, .f32⟩
  | 13 => ⟨S1x128, .f32⟩
  | 14 => ⟨S256x128, .f32⟩
  | 15 => ⟨S256x128, .f32⟩
  | 16 => ⟨S8x256x1024, .f32⟩
  | 17 => ⟨S1024, .f32⟩
  | 18 => ⟨S8x256x1024, .f32⟩
  | 19 => ⟨S_, .f32⟩
  | 20 => ⟨S8x256, .f32⟩
  | 21 => ⟨S8x256x1, .f32⟩
  | 22 => ⟨S_, .f32⟩
  | 23 => ⟨S8x256x1, .f32⟩
  | 24 => ⟨S8x256x1, .f32⟩
  | 25 => ⟨S_, .f32⟩
  | 26 => ⟨S8x256x1, .f32⟩
  | 27 => ⟨S8x256x1, .f32⟩
  | 28 => ⟨S8x256x1, .f32⟩
  | 29 => ⟨S8x256x1024, .f32⟩
  | 30 => ⟨S8x256x1024, .f32⟩
  | 31 => ⟨S1x1x1024, .f32⟩
  | 32 => ⟨S8x256x1024, .f32⟩
  | 33 => ⟨S8x256x1024, .f32⟩
  | 34 => ⟨S1x1x1024, .f32⟩
  | 35 => ⟨S1x1024, .f32⟩
  | 36 => ⟨S1x1x1024, .f32⟩
  | 37 => ⟨S1x1024, .f32⟩
  | 38 => ⟨S1x1x1024, .f32⟩
  | 39 => ⟨S_, .f32⟩
  | 40 => ⟨S1x1x1024, .f32⟩
  | 41 => ⟨S1x1x1024, .f32⟩
  | 42 => ⟨S8x256x1024, .f32⟩
  | 43 => ⟨S8x256x1024, .f32⟩
  | 44 => ⟨S1x1x1024, .f32⟩
  | 45 => ⟨S8x256x1024, .f32⟩
  | 46 => ⟨S8x256x1024, .f32⟩
  | 47 => ⟨S1024x2304, .f32⟩
  | 48 => ⟨S8x256x2304, .f32⟩
  | 49 => ⟨S8x256x384, .f32⟩
  | 50 => ⟨S8x256x256, .f32⟩
  | 51 => ⟨S8x256x128, .f32⟩
  | 52 => ⟨S8x256x1536, .f32⟩
  | 53 => ⟨S256, .f32⟩
  | 54 => ⟨S8x256x256, .f32⟩
  | 55 => ⟨S_, .f32⟩
  | 56 => ⟨S8x256, .f32⟩
  | 57 => ⟨S8x256x1, .f32⟩
  | 58 => ⟨S_, .f32⟩
  | 59 => ⟨S8x256x1, .f32⟩
  | 60 => ⟨S8x256x1, .f32⟩
  | 61 => ⟨S_, .f32⟩
  | 62 => ⟨S8x256x1, .f32⟩
  | 63 => ⟨S8x256x1, .f32⟩
  | 64 => ⟨S8x256x1, .f32⟩
  | 65 => ⟨S8x256x256, .f32⟩
  | 66 => ⟨S8x256x256, .f32⟩
  | 67 => ⟨S1x1x256, .f32⟩
  | 68 => ⟨S8x256x256, .f32⟩
  | 69 => ⟨S8x256x256, .f32⟩
  | 70 => ⟨S256x1024, .f32⟩
  | 71 => ⟨S8x256x1024, .f32⟩
  | 72 => ⟨S8x256x8x128, .f32⟩
  | 73 => ⟨S8x256x1x128, .f32⟩
  | 74 => ⟨S8x256x8x128, .f32⟩
  | 75 => ⟨S8x256x8x128, .f32⟩
  | 76 => ⟨S128, .f32⟩
  | 77 => ⟨S8x256x8x128, .f32⟩
  | 78 => ⟨S_, .f32⟩
  | 79 => ⟨S8x256x8, .f32⟩
  | 80 => ⟨S8x256x8x1, .f32⟩
  | 81 => ⟨S_, .f32⟩
  | 82 => ⟨S8x256x8x1, .f32⟩
  | 83 => ⟨S8x256x8x1, .f32⟩
  | 84 => ⟨S_, .f32⟩
  | 85 => ⟨S8x256x8x1, .f32⟩
  | 86 => ⟨S8x256x8x1, .f32⟩
  | 87 => ⟨S8x256x8x1, .f32⟩
  | 88 => ⟨S8x256x8x128, .f32⟩
  | 89 => ⟨S8x256x8x128, .f32⟩
  | 90 => ⟨S1x1x1x128, .f32⟩
  | 91 => ⟨S8x256x8x128, .f32⟩
  | 92 => ⟨S8x256x8x128, .f32⟩
  | 93 => ⟨S256, .f32⟩
  | 94 => ⟨S8x256x256, .f32⟩
  | 95 => ⟨S_, .f32⟩
  | 96 => ⟨S8x256, .f32⟩
  | 97 => ⟨S8x256x1, .f32⟩
  | 98 => ⟨S_, .f32⟩
  | 99 => ⟨S8x256x1, .f32⟩
  | 100 => ⟨S8x256x1, .f32⟩
  | 101 => ⟨S_, .f32⟩
  | 102 => ⟨S8x256x1, .f32⟩
  | 103 => ⟨S8x256x1, .f32⟩
  | 104 => ⟨S8x256x1, .f32⟩
  | 105 => ⟨S8x256x256, .f32⟩
  | 106 => ⟨S8x256x256, .f32⟩
  | 107 => ⟨S1x1x256, .f32⟩
  | 108 => ⟨S8x256x256, .f32⟩
  | 109 => ⟨S8x256x256, .f32⟩
  | 110 => ⟨S256x512, .f32⟩
  | 111 => ⟨S8x256x512, .f32⟩
  | 112 => ⟨S8x256x12x2x64, .f32⟩
  | 113 => ⟨S8x256x4x2x64, .f32⟩
  | 114 => ⟨S8x256x4x2x64, .f32⟩
  | 115 => ⟨S8x256x4x2x64, .f32⟩
  | 116 => ⟨S2x64, .f32⟩
  | 117 => ⟨S8x256x4x2x64, .f32⟩
  | 118 => ⟨S_, .f32⟩
  | 119 => ⟨S8x256x4x2, .f32⟩
  | 120 => ⟨S8x256x4x2x1, .f32⟩
  | 121 => ⟨S_, .f32⟩
  | 122 => ⟨S8x256x4x2x1, .f32⟩
  | 123 => ⟨S8x256x4x2x1, .f32⟩
  | 124 => ⟨S_, .f32⟩
  | 125 => ⟨S8x256x4x2x1, .f32⟩
  | 126 => ⟨S8x256x4x2x1, .f32⟩
  | 127 => ⟨S8x256x4x2x1, .f32⟩
  | _ => ⟨S2048x1024, .f32⟩

abbrev hbmTy0_1 (i : Nat) : BufTy := match i % 128 with
  | 0 => ⟨S8x256x4x2x64, .f32⟩
  | 1 => ⟨S8x256x4x2x64, .f32⟩
  | 2 => ⟨S1x1x1x2x64, .f32⟩
  | 3 => ⟨S8x256x4x2x64, .f32⟩
  | 4 => ⟨S8x256x4x2x64, .f32⟩
  | 5 => ⟨S2048x1024, .f32⟩
  | 6 => ⟨S2048x1024, .bf16⟩
  | 7 => ⟨S2048x512, .f32⟩
  | 8 => ⟨S2048x512, .bf16⟩
  | 9 => ⟨S2048x512, .f32⟩
  | 10 => ⟨S2048x512, .bf16⟩
  | 11 => ⟨S2048x512, .f32⟩
  | 12 => ⟨S2048x512, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_9 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_12 : Ref sig .tc := ⟨.hbm, 118, rfl⟩
abbrev main_v89 : Ref sig .tc := ⟨.hbm, 119, rfl⟩
abbrev main_v90 : Ref sig .tc := ⟨.hbm, 120, rfl⟩
abbrev main_cst_13 : Ref sig .tc := ⟨.hbm, 121, rfl⟩
abbrev main_v91 : Ref sig .tc := ⟨.hbm, 122, rfl⟩
abbrev main_v92 : Ref sig .tc := ⟨.hbm, 123, rfl⟩
abbrev main_cst_14 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Ada.lean ====
abbrev S16x1024 : Shape := ⟨2, ![16, 1024]⟩
abbrev S2x1024x6144 : Shape := ⟨3, ![2, 1024, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S2x1024x6144 : Shape := ⟨3, ![2, 1024, 6144]⟩
abbrev S2x1x6144 : Shape := ⟨3, ![2, 1, 6144]⟩
abbrev S_ : Shape := ⟨0, ![]⟩
abbrev S16x2x6144 : Shape := ⟨3, ![16, 2, 6144]⟩
abbrev S2x16x6144 : Shape := ⟨3, ![2, 16, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2x6144, .f32⟩
  | .hbm, ⟨13, _⟩ => ⟨S2x16x6144, .f32⟩
  | .hbm, ⟨14, _⟩ => ⟨S2x16x6144, .f32⟩
  | .hbm, ⟨15, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Softmax.lean ====
/- Softmax over a row of extended reals, as a kernel computes it (two stretches of keys, one division at the end)
   and as a reference computes it (one row of keys, every weight divided), and their equality. -/
module

public import Idealize.ShloMosaic.Lib.Pointwise

@[expose] public section

noncomputable section

namespace Cert.Soft

open Idealize.ShloMosaic

/-- The weighted mean of `v` by the exponentials of `s` against `M`, divided once at the end. -/
def late {ι : Type} [Fintype ι] (s v : ι → EReal) (M : EReal) : EReal :=
  Ideal.div (∑ k, Ideal.exp (s k - M) * v k) (∑ k, Ideal.exp (s k - M))

/-- The same with every weight divided before the product. -/
def early {ι : Type} [Fintype ι] (s v : ι → EReal) (M : EReal) : EReal :=
  ∑ k, Ideal.div (Ideal.exp (s k - M)) (∑ j, Ideal.exp (s j - M)) * v k

/-- The greatest entry of a row. -/
def top {ι : Type} [Fintype ι] (s : ι → EReal) : EReal := Finset.univ.fold max ⊥ s

/-- The greatest entry is the supremum of the row. -/
theorem top_eq_sup {ι : Type} [Fintype ι] (s : ι → EReal) : top s = Finset.univ.sup s := rfl

/-- A row with no `+∞` and one entry above `−∞` has a real greatest entry. -/
theorem top_real {ι : Type} [Fintype ι] (s : ι → EReal) (h : ∀ k, s k ≠ ⊤) (k₀ : ι) (h₀ : s k₀ ≠ ⊥) :
    ∃ r : ℝ, top s = r := by
  rw [top_eq_sup]
  obtain ⟨k, -, hk⟩ := Finset.exists_mem_eq_sup (Finset.univ : Finset ι) ⟨k₀, Finset.mem_univ _⟩ s
  have hb : Finset.univ.sup s ≠ ⊥ := fun e => h₀ (le_bot_iff.1 (e ▸ Finset.le_sup (Finset.mem_univ k₀)))
  refine ⟨(Finset.univ.sup s).toReal, (EReal.coe_toReal ?_ hb).symm⟩
  rw [hk]; exact h k

/-- The exponential of a score below `+∞` against a real is a non-negative real, positive off `−∞`. -/
theorem exp_sub_real (x : EReal) (r : ℝ) (h : x ≠ ⊤) :
    ∃ p : ℝ, Ideal.exp (x - r) = p ∧ 0 ≤ p ∧ (x ≠ ⊥ → 0 < p) := by
  induction x with
  | bot => exact ⟨0, by rw [EReal.bot_sub]; rfl, le_rfl, fun h => absurd rfl h⟩
  | coe a => exact ⟨Real.exp (a - r), by rw [← EReal.coe_sub]; rfl, (Real.exp_pos _).le, fun _ => Real.exp_pos _⟩
  | top => exact absurd rfl h

/-- The weights of such a row against a real sum to a positive real. -/
theorem sum_exp_real {ι : Type} [Fintype ι] (s : ι → EReal) (r : ℝ) (h : ∀ k, s k ≠ ⊤) (k₀ : ι) (h₀ : s k₀ ≠ ⊥) :
    ∃ d : ℝ, ∑ k, Ideal.exp (s k - r) = d ∧ d ≠ 0 := by
  choose p hp hp0 hp1 using fun k => exp_sub_real (s k) r (h k)
  refine ⟨∑ k, p k, ?_, (Finset.sum_pos' (fun k _ => hp0 k) ⟨k₀, Finset.mem_univ _, hp1 k₀ h₀⟩).ne'⟩
  simp only [hp]
  exact (map_sum (⟨⟨((↑) : ℝ → EReal), EReal.coe_zero⟩, EReal.coe_add⟩ : ℝ →+ EReal) p Finset.univ).symm

/-- A real factor that is not negative goes through a finite sum of extended reals. -/
theorem sum_mul_real {ι : Type} [Fintype ι] (f : ι → EReal) (r : ℝ) (hr : 0 ≤ r) :
    (∑ k, f k) * (r : EReal) = ∑ k, f k * (r : EReal) := by
  classical
  induction (Finset.univ : Finset ι) using Finset.induction_on with
  | empty => simp
  | insert a t ha ih =>
    rw [Finset.sum_insert ha, Finset.sum_insert ha,
      EReal.right_distrib_of_nonneg_of_ne_top (by exact_mod_cast hr) (EReal.coe_ne_top r), ih]

/-- Dividing once at the end is dividing every weight. -/
theorem late_eq_early {ι : Type} [Fintype ι] (s v : ι → EReal) (h : ∀ k, s k ≠ ⊤) (k₀ : ι) (h₀ : s k₀ ≠ ⊥) :
    late s v (top s) = early s v (top s) := by
  obtain ⟨r, hr⟩ := top_real s h k₀ h₀
  rw [hr]
  obtain ⟨d, hd, hd0⟩ := sum_exp_real s r h k₀ h₀
  have hpos : 0 ≤ d := by
    have : (0 : EReal) ≤ d := hd ▸ Finset.sum_nonneg fun k _ => by
      obtain ⟨p, hp, hp0, -⟩ := exp_sub_real (s k) r (h k)
      rw [hp]; exact_mod_cast hp0
    exact_mod_cast this
  unfold late early
  rw [hd, Ideal.div_coe hd0, sum_mul_real _ _ (by positivity)]
  refine Finset.sum_congr rfl fun k _ => ?_
  rw [Ideal.div_coe hd0, mul_right_comm]

/-- The greatest of two stretches' greatest entries is the greatest entry of the joined row. -/
theorem top_split {c n N : ℕ} (e : N = c + n) (s : Fin N → EReal) (sc : Fin c → EReal) (sl : Fin n → EReal)
    (hc : ∀ k : Fin c, s ⟨k.val, by omega⟩ = sc k) (hl : ∀ k : Fin n, s ⟨c + k.val, by omega⟩ = sl k) :
    max (top sl) (top sc) = top s := by
  simp only [top_eq_sup]
  apply le_antisymm
  · refine max_le (Finset.sup_le fun k _ => ?_) (Finset.sup_le fun k _ => ?_)
    · rw [← hl k]; exact Finset.le_sup (Finset.mem_univ _)
    · rw [← hc k]; exact Finset.le_sup (Finset.mem_univ _)
  · refine Finset.sup_le fun k _ => ?_
    by_cases hk : k.val < c
    · exact (hc ⟨k.val, hk⟩).le.trans ((Finset.le_sup (f := sc) (Finset.mem_univ ⟨k.val, hk⟩)).trans (le_max_right _ _))
    · have : s k = sl ⟨k.val - c, by omega⟩ := by
        rw [← hl]; congr 1; exact Fin.ext (by simp only; omega)
      rw [this]; exact (Finset.le_sup (f := sl) (Finset.mem_univ _)).trans (le_max_left _ _)

/-- A sum over the joined row is the two stretches' sums. -/
theorem sum_split {c n N : ℕ} (e : N = c + n) (f : Fin N → EReal) :
    ∑ k, f k = (∑ k : Fin n, f ⟨c + k.val, by omega⟩) + ∑ k : Fin c, f ⟨k.val, by omega⟩ := by
  subst e
  rw [Fin.sum_univ_add, add_comm]; rfl

/-- What a kernel computes of one row: two stretches of keys (`l` and `c`), a shared greatest score, one division. -/
def twoPart {c n : ℕ} (sl vl : Fin n → EReal) (sc vc : Fin c → EReal) : EReal :=
  let M := max (top sl) (top sc)
  Ideal.div ((∑ k, Ideal.exp (sl k - M) * vl k) + ∑ k, Ideal.exp (sc k - M) * vc k)
    ((∑ k, Ideal.exp (sl k - M)) + ∑ k, Ideal.exp (sc k - M))

/-- THE EQUATION: the kernel's two stretches are the reference's softmax over the joined row, context keys first. -/
theorem twoPart_eq_early {c n N : ℕ} (e : N = c + n) (s v : Fin N → EReal) (sl vl : Fin n → EReal) (sc vc : Fin c → EReal)
    (hc : ∀ k : Fin c, s ⟨k.val, by omega⟩ = sc k) (hl : ∀ k : Fin n, s ⟨c + k.val, by omega⟩ = sl k)
    (wc : ∀ k : Fin c, v ⟨k.val, by omega⟩ = vc k) (wl : ∀ k : Fin n, v ⟨c + k.val, by omega⟩ = vl k)
    (h : ∀ k, s k ≠ ⊤) (k₀ : Fin N) (h₀ : s k₀ ≠ ⊥) :
    twoPart sl vl sc vc = early s v (top s) := by
  rw [← late_eq_early s v h k₀ h₀]
  unfold twoPart late
  simp only [top_split e s sc sl hc hl]
  rw [sum_split e, sum_split e]
  simp only [hc, hl, wc, wl]

/-- A finite sum of products of reals is a real. -/
theorem dot_real {ι : Type} [Fintype ι] (a b : ι → EReal) (ha : ∀ k, ∃ r : ℝ, a k = r) (hb : ∀ k, ∃ r : ℝ, b k = r) :
    ∃ r : ℝ, ∑ k, a k * b k = r := by
  choose p hp using ha
  choose q hq using hb
  refine ⟨∑ k, p k * q k, ?_⟩
  simp only [hp, hq, ← EReal.coe_mul]
  exact (map_sum (⟨⟨((↑) : ℝ → EReal), EReal.coe_zero⟩, EReal.coe_add⟩ : ℝ →+ EReal) _ Finset.univ).symm

/-- An extended real of magnitude below `+∞` is a real. -/
theorem real_of_abs_lt {x : EReal} (h : max x (-x) < ⊤) : ∃ r : ℝ, x = r := by
  induction x with
  | bot => simp at h
  | coe a => exact ⟨a, rfl⟩
  | top => simp at h

end Cert.Soft

end
-- ==== Proof.MlaBlock.lean ====
/- What one grid point of the latent attention writes: each of its four stores, read at an index. -/
module

public import proofs.«01_k».proof.Proof.Gen.MlaIdeal.Value
public import proofs.«01_k».proof.Proof.Softmax
public import Idealize.ShloMosaic.Lib.Pointwise

@[expose] public section

set_option maxRecDepth 16384

noncomputable section

namespace Cert.MlaIdeal.Block

open Cert.MlaIdeal Cert.MlaIdeal.Gen Idealize.ShloMosaic Idealize.ShloMosaic.TcCoe Idealize.SL.Sem

/-- One head of one row: the queries against both stretches of keys, softmax over them, against both stretches of values. -/
def head (q : Vec Ideal S1x512x128 .bf16) (k : Vec Ideal S1x2048x128 .bf16) (kc : Vec Ideal S1x256x128 .bf16)
    (v : Vec Ideal S1x2048x128 .bf16) (vc : Vec Ideal S1x256x128 .bf16) (r : Fin 512) (l : Fin 128) : EReal :=
  Soft.twoPart (fun j : Fin 2048 => ∑ d : Fin 128, (show EReal from q (ix3 0 r d)) * (show EReal from k (ix3 0 j d)))
    (fun j => v (ix3 0 j l))
    (fun j : Fin 256 => ∑ d : Fin 128, (show EReal from q (ix3 0 r d)) * (show EReal from kc (ix3 0 j d)))
    (fun j => vc (ix3 0 j l))

/-- The pattern of `−∞`. -/
theorem ofBits_neg_inf : Ideal.ofBits .f32 0xFF800000#32 = ⊥ := by
  simp [Ideal.ofBits, Ideal.ieee]

/-- The lane mask, read at a lane. -/
theorem mask_apply {α : Type} (l : Fin 128) (a b : α) :
    Scalar.select (k0_pay2 (ix2 0 l)) a b = if l.val < 64 then a else b := by
  pointwise [k0_pay2]
  rw [(by decide : ∀ l : Fin 128, IntOp.cmpi .slt (BitVec.ofNat 32 l.val) 64#32 = if l.val < 64 then 1#1 else 0#1) l]
  split <;> rfl

/-- A store's payload: the lower lanes of the first head's result, the upper lanes of the second's. -/
theorem store_apply (o o' : FVec Ideal S512x128 .f32) (r : Fin 512) (l : Fin 128) (A B : EReal)
    (hA : o (ix2 r l) = A) (hB : o' (ix2 r l) = B) :
    shapeCast S1x512x128 (truncf .bf16 (select (broadcastTo S512x128 (shapeCast S1x128 k0_pay2 shapeCasts_S1x128_S1x128)
      broadcasts_S1x128_S512x128) o o') bitsLt_bf16_f32) shapeCasts_S512x128_S1x512x128 (ix3 0 r l)
      = if l.val < 64 then A else B := by
  pointwise [hA, hB]
  exact mask_apply l A B

/-- One head's result before the lanes are selected, as the body's operations. -/
def headTerm (q : Vec Ideal S1x512x128 .bf16) (k : Vec Ideal S1x2048x128 .bf16) (kc : Vec Ideal S1x256x128 .bf16)
    (v : Vec Ideal S1x2048x128 .bf16) (vc : Vec Ideal S1x256x128 .bf16) : FVec Ideal S512x128 .f32 :=
  k0_pay13 (k0_pay6 vc) (k0_pay10 q k kc) (k0_pay11 q k kc v) (k0_pay12 q k kc) (constant S512x128 .f32 0x00000000#32)

/-- It is `head`, index by index. -/
theorem headTerm_apply (q : Vec Ideal S1x512x128 .bf16) (k : Vec Ideal S1x2048x128 .bf16) (kc : Vec Ideal S1x256x128 .bf16)
    (v : Vec Ideal S1x2048x128 .bf16) (vc : Vec Ideal S1x256x128 .bf16) (r : Fin 512) (l : Fin 128) :
    headTerm q k kc v vc (ix2 r l) = head q k kc v vc r l := by
  pointwise [headTerm, k0_pay13, k0_pay6, k0_pay10, k0_pay11, k0_pay12, k0_pay8, k0_pay9, k0_pay7, k0_pay4, k0_pay5, k0_pay3, ofBits_neg_inf]
  rfl

/-- The first store (heads 0 and 1). -/
theorem pair0 (q0 q1 : Vec Ideal S1x512x128 .bf16) (k0 k1 : Vec Ideal S1x2048x128 .bf16) (kc0 kc1 : Vec Ideal S1x256x128 .bf16)
    (v : Vec Ideal S1x2048x128 .bf16) (vc : Vec Ideal S1x256x128 .bf16) (r : Fin 512) (l : Fin 128) :
    k0_pay22 (F := Ideal) k0_pay2 (k0_pay13 (k0_pay6 vc) (k0_pay10 q0 k0 kc0) (k0_pay11 q0 k0 kc0 v) (k0_pay12 q0 k0 kc0) (constant S512x128 .f32 0x00000000#32))
      (k0_pay20 q1 k1 kc1) (k0_pay21 q1 k1 kc1 v vc) (ix3 0 r l)
      = if l.val < 64 then head q0 k0 kc0 v vc r l else head q1 k1 kc1 v vc r l :=
  store_apply (headTerm q0 k0 kc0 v vc) (headTerm q1 k1 kc1 v vc) r l _ _ (headTerm_apply ..) (headTerm_apply ..)

/-- The second store (heads 2 and 3). -/
theorem pair1 (q0 q1 : Vec Ideal S1x512x128 .bf16) (k0 k1 : Vec Ideal S1x2048x128 .bf16) (kc0 kc1 : Vec Ideal S1x256x128 .bf16)
    (v : Vec Ideal S1x2048x128 .bf16) (vc : Vec Ideal S1x256x128 .bf16) (r : Fin 512) (l : Fin 128) :
    k0_pay43 (F := Ideal) k0_pay2 (k0_pay33 (k0_pay26 v) (k0_pay27 vc) (k0_pay29 q0 k0 kc0) (k0_pay30 q0 k0 kc0) (k0_pay31 q0 k0 kc0) (k0_pay32 q0 k0 kc0))
      (k0_pay37 v) (k0_pay38 vc) (k0_pay40 q1 k1 kc1) (k0_pay41 q1 k1 kc1) (k0_pay42 q1 k1 kc1) (ix3 0 r l)
      = if l.val < 64 then head q0 k0 kc0 v vc r l else head q1 k1 kc1 v vc r l :=
  store_apply (headTerm q0 k0 kc0 v vc) (headTerm q1 k1 kc1 v vc) r l _ _ (headTerm_apply ..) (headTerm_apply ..)

/-- The third store (heads 4 and 5). -/
theorem pair2 (q0 q1 : Vec Ideal S1x512x128 .bf16) (k0 k1 : Vec Ideal S1x2048x128 .bf16) (kc0 kc1 : Vec Ideal S1x256x128 .bf16)
    (v : Vec Ideal S1x2048x128 .bf16) (vc : Vec Ideal S1x256x128 .bf16) (r : Fin 512) (l : Fin 128) :
    k0_pay61 (F := Ideal) k0_pay2 (k0_pay52 (k0_pay46 q0 kc0) (k0_pay47 v) (k0_pay48 vc) (k0_pay50 q0 k0 kc0) (k0_pay51 q0 k0 kc0))
      (k0_pay56 v) (k0_pay57 vc) (k0_pay59 q1 k1 kc1) (k0_pay60 q1 k1 kc1) (ix3 0 r l)
      = if l.val < 64 then head q0 k0 kc0 v vc r l else head q1 k1 kc1 v vc r l :=
  store_apply (headTerm q0 k0 kc0 v vc) (headTerm q1 k1 kc1 v vc) r l _ _ (headTerm_apply ..) (headTerm_apply ..)

/-- The fourth store (heads 6 and 7). -/
theorem pair3 (q0 q1 : Vec Ideal S1x512x128 .bf16) (k0 k1 : Vec Ideal S1x2048x128 .bf16) (kc0 kc1 : Vec Ideal S1x256x128 .bf16)
    (v : Vec Ideal S1x2048x128 .bf16) (vc : Vec Ideal S1x256x128 .bf16) (r : Fin 512) (l : Fin 128) :
    k0_pay1 (F := Ideal) k0_pay2 (k0_pay68 (k0_pay63 q0 k0) (k0_pay64 q0 kc0) (k0_pay65 v) (k0_pay66 vc) (k0_pay67 q0 k0))
      (k0_pay70 q1 k1) (k0_pay71 q1 kc1) (k0_pay72 v) (k0_pay73 vc) (k0_pay74 q1 k1) (k0_pay75 q1 kc1) (ix3 0 r l)
      = if l.val < 64 then head q0 k0 kc0 v vc r l else head q1 k1 kc1 v vc r l :=
  store_apply (headTerm q0 k0 kc0 v vc) (headTerm q1 k1 kc1 v vc) r l _ _ (headTerm_apply ..) (headTerm_apply ..)

end Cert.MlaIdeal.Block

end
-- ==== Proof.MlaRef.lean ====
/- The reference latent attention, read at an index: softmax over the joined row of context and latent keys. -/
module

public import proofs.«01_k».proof.Proof.Gen.MlaRefIdeal.Read
public import proofs.«01_k».proof.Proof.Softmax
public import Idealize.ShloMosaic.Lib.Pointwise

@[expose] public section

set_option maxRecDepth 16384

noncomputable section

namespace Cert.MlaRefIdeal.At

open Cert.MlaRefIdeal Cert.MlaRefIdeal.Read Idealize.ShloMosaic Idealize.ShloMosaic.TcCoe Idealize.SL.Sem

variable (x0 x1 : FVec Ideal S8x2048x1024 .bf16) (x2 : FVec Ideal S8x2048x512 .bf16)
  (x3 : FVec Ideal S8x256x1024 .bf16) (x4 : FVec Ideal S8x256x512 .bf16)

/-- A context key's score. -/
theorem score_ctx (b h : Fin 8) (t : Fin 2048) (k : Fin 256) :
    val_main_v17 (F := Ideal) x0 x1 x3 (ix4 b h t ⟨k.val, by omega⟩)
      = ∑ d : Fin 128, x0 (ix3 b t ⟨h.val * 128 + d.val, by omega⟩) * x3 (ix3 b k ⟨h.val * 128 + d.val, by omega⟩) := by
  pointwise [val_main_v17, val_main_v0, val_main_v1, val_main_v2, val_main_v3, val_main_v4, val_main_v5, val_main_v6, val_main_v7, val_main_v8, val_main_v9]

/-- A latent key's score. -/
theorem score_lat (b h : Fin 8) (t : Fin 2048) (k : Fin 2048) :
    val_main_v17 (F := Ideal) x0 x1 x3 (ix4 b h t ⟨256 + k.val, by omega⟩)
      = ∑ d : Fin 128, x0 (ix3 b t ⟨h.val * 128 + d.val, by omega⟩) * x1 (ix3 b k ⟨h.val * 128 + d.val, by omega⟩) := by
  pointwise [val_main_v17, val_main_v0, val_main_v1, val_main_v2, val_main_v3, val_main_v4, val_main_v5, val_main_v6, val_main_v7, val_main_v8, val_main_v9]

/-- A context key's value. -/
theorem val_ctx (b h : Fin 8) (k : Fin 256) (d : Fin 64) :
    val_main_v16 (F := Ideal) x2 x4 (ix4 b h ⟨k.val, by omega⟩ d) = x4 (ix3 b k ⟨h.val * 64 + d.val, by omega⟩) := by
  pointwise [val_main_v16, val_main_v10, val_main_v11, val_main_v12, val_main_v13, val_main_v14, val_main_v15]

/-- A latent key's value. -/
theorem val_lat (b h : Fin 8) (k : Fin 2048) (d : Fin 64) :
    val_main_v16 (F := Ideal) x2 x4 (ix4 b h ⟨256 + k.val, by omega⟩ d) = x2 (ix3 b k ⟨h.val * 64 + d.val, by omega⟩) := by
  pointwise [val_main_v16, val_main_v10, val_main_v11, val_main_v12, val_main_v13, val_main_v14, val_main_v15]

end Cert.MlaRefIdeal.At

end
-- ==== Proof.MlaRefSoft.lean ====
/- The reference latent attention, its softmax read at an index. -/
module

public import proofs.«01_k».proof.Proof.Gen.MlaRefIdeal.Read
public import proofs.«01_k».proof.Proof.Softmax
public import Idealize.ShloMosaic.Lib.Pointwise

@[expose] public section

set_option maxRecDepth 16384

noncomputable section

namespace Cert.MlaRefIdeal.At

open Cert.MlaRefIdeal Cert.MlaRefIdeal.Read Idealize.ShloMosaic Idealize.ShloMosaic.TcCoe Idealize.SL.Sem

variable (x0 x1 : FVec Ideal S8x2048x1024 .bf16) (x2 : FVec Ideal S8x2048x512 .bf16)
  (x3 : FVec Ideal S8x256x1024 .bf16) (x4 : FVec Ideal S8x256x512 .bf16)

/-- The pattern of `−∞`. -/
theorem ofBits_neg_inf : Ideal.ofBits .f32 0xFF800000#32 = ⊥ := by
  simp [Ideal.ofBits, Ideal.ieee]

/-- The weighted sum. -/
theorem out_apply (b : Fin 8) (t : Fin 2048) (h : Fin 8) (d : Fin 64) :
    val_main_v32 (F := Ideal) x0 x1 x2 x3 x4 (ix3 b t ⟨h.val * 64 + d.val, by omega⟩)
      = ∑ k : Fin 2304, val_main_v28 (F := Ideal) x0 x1 x3 (ix4 b h t k) * val_main_v16 (F := Ideal) x2 x4 (ix4 b h k d) := by
  unfold val_main_v32 val_main_v31 val_main_v30 val_main_v29
  generalize val_main_v28 (F := Ideal) x0 x1 x3 = y
  generalize val_main_v16 (F := Ideal) x2 x4 = z
  pointwise

/-- A weight. -/
theorem weight_apply (b : Fin 8) (t : Fin 2048) (h : Fin 8) (k : Fin 2304) :
    val_main_v28 (F := Ideal) x0 x1 x3 (ix4 b h t k)
      = Ideal.div (val_main_v24 (F := Ideal) x0 x1 x3 (ix4 b h t k)) (∑ j : Fin 2304, val_main_v24 (F := Ideal) x0 x1 x3 (ix4 b h t j)) := by
  unfold val_main_v28 val_main_v27 val_main_v26 val_main_v25
  generalize val_main_v24 (F := Ideal) x0 x1 x3 = y
  pointwise [val_main_cst_1]

/-- The greatest score of a row. -/
theorem top_apply (b : Fin 8) (t : Fin 2048) (h : Fin 8) :
    val_main_v18 (F := Ideal) x0 x1 x3 (ix3 b h t) = Soft.top fun k : Fin 2304 => val_main_v17 (F := Ideal) x0 x1 x3 (ix4 b h t k) := by
  unfold val_main_v18 Soft.top
  generalize val_main_v17 (F := Ideal) x0 x1 x3 = y
  pointwise [val_main_cst, ofBits_neg_inf]

/-- An exponential's scalars. -/
theorem exp_scalar (x z : EReal) :
    FloatOps.hostUnary (F := Ideal) (φ := .f32) .exp (FloatOps.subf (F := Ideal) (φ := .f32) x (FloatOps.maximumf (F := Ideal) (φ := .f32) (⊥ : EReal) z))
      = Ideal.exp (x - max ⊥ z) := rfl

/-- An exponential. -/
theorem exp_apply (b : Fin 8) (t : Fin 2048) (h : Fin 8) (k : Fin 2304) :
    val_main_v24 (F := Ideal) x0 x1 x3 (ix4 b h t k)
      = Ideal.exp (val_main_v17 (F := Ideal) x0 x1 x3 (ix4 b h t k) - max ⊥ (val_main_v18 (F := Ideal) x0 x1 x3 (ix3 b h t))) := by
  have e : idx_main_v21 (idx_main_v22 (ix4 b h t k)) = ix3 b h t := by
    funext a
    match a with
    | ⟨0, _⟩ => rfl
    | ⟨1, _⟩ => rfl
    | ⟨2, _⟩ => rfl
  have c : ∀ i, val_main_cst_0 (F := Ideal) i = (⊥ : EReal) := fun i => ofBits_neg_inf
  rw [val_main_v24_apply, val_main_v23_apply, val_main_v22_apply, val_main_v21_apply, val_main_v20_apply, val_main_v19_apply, e, c,
    exp_scalar]

/-- The result at an index: the softmax of the row of scores against the row of values. -/
theorem res_apply (b : Fin 8) (t : Fin 2048) (h : Fin 8) (d : Fin 64) :
    val_main_v32 (F := Ideal) x0 x1 x2 x3 x4 (ix3 b t ⟨h.val * 64 + d.val, by omega⟩)
      = Soft.early (fun k : Fin 2304 => val_main_v17 (F := Ideal) x0 x1 x3 (ix4 b h t k))
          (fun k : Fin 2304 => val_main_v16 (F := Ideal) x2 x4 (ix4 b h k d))
          (Soft.top fun k : Fin 2304 => val_main_v17 (F := Ideal) x0 x1 x3 (ix4 b h t k)) := by
  rw [out_apply]
  unfold Soft.early
  refine Finset.sum_congr rfl fun k _ => ?_
  rw [weight_apply]
  simp only [exp_apply, top_apply, bot_le, max_eq_right]

end Cert.MlaRefIdeal.At

end
-- ==== Proof.MlaHead.lean ====
/- One head of the latent attention: what a grid point computes from its blocks is what the reference holds there. -/
module

public import proofs.«01_k».proof.Proof.MlaBlock
public import proofs.«01_k».proof.Proof.MlaRef
public import proofs.«01_k».proof.Proof.MlaRefSoft

@[expose] public section

set_option maxRecDepth 16384

noncomputable section

namespace Cert.MlaIdeal.Block

open Cert.MlaIdeal Idealize.ShloMosaic Idealize.ShloMosaic.TcCoe Idealize.SL.Sem
open Cert.MlaRefIdeal.Read Cert.MlaRefIdeal.At

variable (x0 x1 : FVec Ideal S8x2048x1024 .bf16) (x2 : FVec Ideal S8x2048x512 .bf16)
  (x3 : FVec Ideal S8x256x1024 .bf16) (x4 : FVec Ideal S8x256x512 .bf16)

/-- A head over blocks that hold the right stretches of the arrays is the reference's result: every score is real. -/
theorem head_eq (f0 : ∀ i, ∃ r : ℝ, (show EReal from x0 i) = r) (f1 : ∀ i, ∃ r : ℝ, (show EReal from x1 i) = r)
    (f3 : ∀ i, ∃ r : ℝ, (show EReal from x3 i) = r)
    (q : Vec Ideal S1x512x128 .bf16) (k : Vec Ideal S1x2048x128 .bf16) (kc : Vec Ideal S1x256x128 .bf16)
    (v : Vec Ideal S1x2048x128 .bf16) (vc : Vec Ideal S1x256x128 .bf16) (r : Fin 512) (l : Fin 128)
    (b h : Fin 8) (t : Fin 2048) (d : Fin 64)
    (hq : ∀ e : Fin 128, q (ix3 0 r e) = x0 (ix3 b t ⟨h.val * 128 + e.val, by omega⟩))
    (hk : ∀ (j : Fin 2048) (e : Fin 128), k (ix3 0 j e) = x1 (ix3 b j ⟨h.val * 128 + e.val, by omega⟩))
    (hkc : ∀ (j : Fin 256) (e : Fin 128), kc (ix3 0 j e) = x3 (ix3 b j ⟨h.val * 128 + e.val, by omega⟩))
    (hv : ∀ j : Fin 2048, v (ix3 0 j l) = x2 (ix3 b j ⟨h.val * 64 + d.val, by omega⟩))
    (hvc : ∀ j : Fin 256, vc (ix3 0 j l) = x4 (ix3 b j ⟨h.val * 64 + d.val, by omega⟩)) :
    head q k kc v vc r l = val_main_v32 (F := Ideal) x0 x1 x2 x3 x4 (ix3 b t ⟨h.val * 64 + d.val, by omega⟩) := by
  have hs : ∀ j : Fin 2304, ∃ r : ℝ, (show EReal from val_main_v17 (F := Ideal) x0 x1 x3 (ix4 b h t j)) = r := by
    intro j
    by_cases hj : j.val < 256
    · have e := score_ctx x0 x1 x3 b h t ⟨j.val, hj⟩
      obtain ⟨r, hr⟩ := Soft.dot_real (fun d : Fin 128 => x0 (ix3 b t ⟨h.val * 128 + d.val, by omega⟩))
        (fun d : Fin 128 => x3 (ix3 b ⟨j.val, hj⟩ ⟨h.val * 128 + d.val, by omega⟩)) (fun _ => f0 _) (fun _ => f3 _)
      exact ⟨r, e.trans hr⟩
    · have e := score_lat x0 x1 x3 b h t ⟨j.val - 256, by omega⟩
      have ej : (⟨256 + (j.val - 256), by omega⟩ : Fin 2304) = j := Fin.ext (by simp; omega)
      obtain ⟨r, hr⟩ := Soft.dot_real (fun d : Fin 128 => x0 (ix3 b t ⟨h.val * 128 + d.val, by omega⟩))
        (fun d : Fin 128 => x1 (ix3 b ⟨j.val - 256, by omega⟩ ⟨h.val * 128 + d.val, by omega⟩)) (fun _ => f0 _) (fun _ => f1 _)
      refine ⟨r, Eq.trans ?_ hr⟩
      rw [← e]
      exact congrArg (fun z => val_main_v17 (F := Ideal) x0 x1 x3 (ix4 b h t z)) ej.symm
  refine Eq.trans ?_ (res_apply x0 x1 x2 x3 x4 b t h d).symm
  unfold head
  refine Soft.twoPart_eq_early (c := 256) (n := 2048) (N := 2304) rfl _ _ _ _ _ _ ?_ ?_ ?_ ?_ ?_ ⟨0, by decide⟩ ?_
  · intro j
    refine (score_ctx x0 x1 x3 b h t j).trans (Finset.sum_congr rfl fun e _ => ?_)
    rw [hq, hkc]
  · intro j
    refine (score_lat x0 x1 x3 b h t j).trans (Finset.sum_congr rfl fun e _ => ?_)
    rw [hq, hk]
  · intro j
    exact (val_ctx x2 x4 b h j d).trans (hvc j).symm
  · intro j
    exact (val_lat x2 x4 b h j d).trans (hv j).symm
  · intro j
    obtain ⟨r, hr⟩ := hs j
    exact fun e => EReal.coe_ne_top r (hr.symm.trans e)
  · obtain ⟨r, hr⟩ := hs ⟨0, by decide⟩
    exact fun e => EReal.coe_ne_bot r (hr.symm.trans e)

end Cert.MlaIdeal.Block

end
-- ==== Proof.MlaValue.lean ====
/- The latent attention's result array after the run is the reference's, where queries and keys are finite. -/
module

public import proofs.«01_k».proof.Proof.MlaHead
public import Idealize.ShloMosaic.Lib.Pipeline.ValueKit

@[expose] public section

set_option maxRecDepth 16384

noncomputable section

namespace Cert.MlaIdeal.At

open Cert.MlaIdeal Cert.MlaIdeal.Gen Idealize.ShloMosaic Idealize.ShloMosaic.TcCoe Idealize.SL.Sem
open Idealize.ShloMosaic.Pipeline (Dat)
open Cert.MlaRefIdeal.Read

variable (m : (ℓ : Loc nD τ sig) → Buf (Elt Ideal) ℓ)

/-- Which block of each array a grid point reads and writes. -/
theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, t.val % 4, 0] :=
  (by decide +kernel : ∀ t : Fin grid0.N, _)

/-- The reference's result from the kernel's argument arrays. -/
abbrev REF (c : Dev nD) : FVec Ideal S8x2048x512 .bf16 :=
  val_main_v32 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- Every entry of an array is a real number. -/
def Real {S : Shape} (x : FVec Ideal S .bf16) : Prop := ∀ i, ∃ r : ℝ, (show EReal from x i) = r

/-- An index of one store is its row and its lane. -/
theorem split_idx (x : S1x512x128.Idx) : ∃ (r : Fin 512) (l : Fin 128), x = ix3 0 r l :=
  ⟨x 1, x 2, by blk_ext⟩

variable (c : Dev nD) (f0 : Real (S := S8x2048x1024) (m ((c : Thread nD τ).loc main_arg0))) (f1 : Real (S := S8x2048x1024) (m ((c : Thread nD τ).loc main_arg1)))
  (f3 : Real (S := S8x256x1024) (m ((c : Thread nD τ).loc main_arg3)))

include f0 f1 f3

/-- One store of a grid point, both lane halves: heads `2p` and `2p + 1` over the point's blocks. -/
theorem tile (t : Fin cfg0.N) (p : Fin 4)
    (q0 q1 : Vec Ideal S1x512x128 .bf16) (k0 k1 : Vec Ideal S1x2048x128 .bf16) (kc0 kc1 : Vec Ideal S1x256x128 .bf16)
    (v : Vec Ideal S1x2048x128 .bf16) (vc : Vec Ideal S1x256x128 .bf16) (r : Fin 512) (l : Fin 128)
    (hq0 : ∀ e : Fin 128, q0 (ix3 0 r e) = iblk m c 0 t (ix3 0 r ⟨p.val * 256 + e.val, by omega⟩))
    (hq1 : ∀ e : Fin 128, q1 (ix3 0 r e) = iblk m c 0 t (ix3 0 r ⟨p.val * 256 + 128 + e.val, by omega⟩))
    (hk0 : ∀ (j : Fin 2048) (e : Fin 128), k0 (ix3 0 j e) = iblk m c 1 t (ix3 0 j ⟨p.val * 256 + e.val, by omega⟩))
    (hk1 : ∀ (j : Fin 2048) (e : Fin 128), k1 (ix3 0 j e) = iblk m c 1 t (ix3 0 j ⟨p.val * 256 + 128 + e.val, by omega⟩))
    (hkc0 : ∀ (j : Fin 256) (e : Fin 128), kc0 (ix3 0 j e) = iblk m c 3 t (ix3 0 j ⟨p.val * 256 + e.val, by omega⟩))
    (hkc1 : ∀ (j : Fin 256) (e : Fin 128), kc1 (ix3 0 j e) = iblk m c 3 t (ix3 0 j ⟨p.val * 256 + 128 + e.val, by omega⟩))
    (hv : ∀ j : Fin 2048, v (ix3 0 j l) = iblk m c 2 t (ix3 0 j ⟨p.val * 128 + l.val, by omega⟩))
    (hvc : ∀ j : Fin 256, vc (ix3 0 j l) = iblk m c 4 t (ix3 0 j ⟨p.val * 128 + l.val, by omega⟩))
    (i : S8x2048x512.Idx) (h0 : (i 0 : ℕ) = t.val / 4) (h1 : (i 1 : ℕ) = t.val % 4 * 512 + r.val) (h2 : (i 2 : ℕ) = p.val * 128 + l.val) :
    (if l.val < 64 then Block.head q0 k0 kc0 v vc r l else Block.head q1 k1 kc1 v vc r l) = REF m c i := by
  have ht : t.val < 32 := lt_of_lt_of_eq t.isLt N_0
  split
  · rename_i hl
    refine (Block.head_eq _ _ (m ((c : Thread nD τ).loc main_arg2)) _ (m ((c : Thread nD τ).loc main_arg4)) f0 f1 f3 q0 k0 kc0 v vc r l
      ⟨t.val / 4, by omega⟩ ⟨2 * p.val, by omega⟩ ⟨t.val % 4 * 512 + r.val, by omega⟩ ⟨l.val, hl⟩ ?_ ?_ ?_ ?_ ?_).trans ?_
    · intro e; rw [hq0]; blk_ext [iblk, V, idx t]
    · intro j e; rw [hk0]; blk_ext [iblk, V, idx t]
    · intro j e; rw [hkc0]; blk_ext [iblk, V, idx t]
    · intro j; rw [hv]; blk_ext [iblk, V, idx t]
    · intro j; rw [hvc]; blk_ext [iblk, V, idx t]
    · blk_ext
  · rename_i hl
    refine (Block.head_eq _ _ (m ((c : Thread nD τ).loc main_arg2)) _ (m ((c : Thread nD τ).loc main_arg4)) f0 f1 f3 q1 k1 kc1 v vc r l
      ⟨t.val / 4, by omega⟩ ⟨2 * p.val + 1, by omega⟩ ⟨t.val % 4 * 512 + r.val, by omega⟩ ⟨l.val - 64, by omega⟩ ?_ ?_ ?_ ?_ ?_).trans ?_
    · intro e; rw [hq1]; blk_ext [iblk, V, idx t]
    · intro j e; rw [hk1]; blk_ext [iblk, V, idx t]
    · intro j e; rw [hkc1]; blk_ext [iblk, V, idx t]
    · intro j; rw [hv]; blk_ext [iblk, V, idx t]
    · intro j; rw [hvc]; blk_ext [iblk, V, idx t]
    · blk_ext

/-- What a grid point leaves in the result's buffer is the reference's block. -/
theorem point (t : Fin cfg0.N) (y : S1x512x512.Idx) :
    out0_5 (iblk m c 0 t) (iblk m c 1 t) (iblk m c 2 t) (iblk m c 3 t) (iblk m c 4 t) y = REF m c (((cfg0.win 5).blk t).view.emb y) := by
  canon_tiles x h
  all_goals
    obtain ⟨r, l, rfl⟩ := split_idx x
    have h1' : (y 1 : ℕ) = r.val := h1
  case piece0 =>
    have h2' : (y 2 : ℕ) = (((3 : Fin 4) : ℕ)) * 128 + l.val := h2.trans (by show 384 + l.val = _; simp)
    refine Eq.trans (Block.pair3 ..) (tile m c f0 f1 f3 t 3 _ _ _ _ _ _ _ _ r l ?_ ?_ ?_ ?_ ?_ ?_ ?_ ?_ _ ?_ ?_ ?_)
    iterate 2 · intro e; pointwise; blk_ext
    iterate 4 · intro j e; pointwise; blk_ext
    iterate 2 · intro j; pointwise; blk_ext
    all_goals blk_simp [idx t]
    · omega
    · omega
  case piece1 =>
    have h2' : (y 2 : ℕ) = (((2 : Fin 4) : ℕ)) * 128 + l.val := h2.trans (by show 256 + l.val = _; simp)
    refine Eq.trans (Block.pair2 ..) (tile m c f0 f1 f3 t 2 _ _ _ _ _ _ _ _ r l ?_ ?_ ?_ ?_ ?_ ?_ ?_ ?_ _ ?_ ?_ ?_)
    iterate 2 · intro e; pointwise; blk_ext
    iterate 4 · intro j e; pointwise; blk_ext
    iterate 2 · intro j; pointwise; blk_ext
    all_goals blk_simp [idx t]
    · omega
    · omega
  case piece2 =>
    have h2' : (y 2 : ℕ) = (((1 : Fin 4) : ℕ)) * 128 + l.val := h2.trans (by show 128 + l.val = _; simp)
    refine Eq.trans (Block.pair1 ..) (tile m c f0 f1 f3 t 1 _ _ _ _ _ _ _ _ r l ?_ ?_ ?_ ?_ ?_ ?_ ?_ ?_ _ ?_ ?_ ?_)
    iterate 2 · intro e; pointwise; blk_ext
    iterate 4 · intro j e; pointwise; blk_ext
    iterate 2 · intro j; pointwise; blk_ext
    all_goals blk_simp [idx t]
    · omega
    · omega
  case piece3 =>
    have h2' : (y 2 : ℕ) = (((0 : Fin 4) : ℕ)) * 128 + l.val := h2.trans (by show l.val = _; simp)
    refine Eq.trans (Block.pair0 ..) (tile m c f0 f1 f3 t 0 _ _ _ _ _ _ _ _ r l ?_ ?_ ?_ ?_ ?_ ?_ ?_ ?_ _ ?_ ?_ ?_)
    iterate 2 · intro e; pointwise; blk_ext
    iterate 4 · intro j e; pointwise; blk_ext
    iterate 2 · intro j; pointwise; blk_ext
    all_goals blk_simp [idx t]
    · omega
    · omega

/-- The result array after the run. -/
theorem final : (dats m 0 c).arrAt 5 (cfgs 0).N = REF m c := by
  refine (dats m 0 c).arrAt_eq_of_covers 5 _ (by decide +kernel) fun t hf y => ?_
  blk_simp
  rw [after0_5]
  exact point m c f0 f1 f3 t y

end Cert.MlaIdeal.At

end
-- ==== Proof.MlaClaim.lean ====
/- The latent attention's claims: the precondition read as "queries and keys are real", and the equation of the two results. -/
module

public import proofs.«01_k».proof.Defs
public import proofs.«01_k».proof.Proof.MlaValue
public import proofs.«01_k».proof.Proof.Gen.MlaRefIdeal.Run

@[expose] public section

set_option maxRecDepth 16384

noncomputable section

namespace Cert.MlaIdeal.At

open Cert.MlaIdeal Idealize.ShloMosaic Idealize.ShloMosaic.TcCoe Idealize.SL.Sem

/-- The broadcasts of the precondition hold. -/
theorem pre_facts : Cert.Pre_finite_scores.Facts where
  bcast_S_S8x2048x1024 := by decide
  bcast_S_S8x256x1024 := by decide

instance : Cert.Pre_finite_scores.Facts := pre_facts

/-- The pattern of `+∞`. -/
theorem ofBits_inf : Ideal.ofBits .bf16 0x7F80#16 = ⊤ := by
  simp [Ideal.ofBits, Ideal.ieee]

/-- A comparison that answers one says its entry is a real number. -/
theorem real_of_cmp (x : EReal) (h : FloatOps.cmpf (F := Ideal) (φ := .bf16) .olt (FloatOps.hostAbsf (F := Ideal) (φ := .bf16) x) (Ideal.ofBits .bf16 0x7F80#16) = 1#1) :
    ∃ r : ℝ, x = r := by
  rw [ofBits_inf] at h
  refine Soft.real_of_abs_lt (by_contra fun hx => ?_)
  have e : FloatOps.cmpf (F := Ideal) (φ := .bf16) .olt (FloatOps.hostAbsf (F := Ideal) (φ := .bf16) x) (⊤ : EReal)
      = BitVec.ofBool (decide (max x (-x) < ⊤)) := rfl
  rw [e, decide_eq_false hx] at h
  exact absurd h (by decide)

/-- Under the precondition the queries and both stretches of keys are real. -/
theorem real_of_pre (m : (ℓ : Loc nD τ sig) → Buf (Elt Ideal) ℓ) (h : Cert.Pre_MlaIdeal_finite_scores m) (c : Dev nD) :
    Real (S := S8x2048x1024) (m ((c : Thread nD τ).loc main_arg0)) ∧ Real (S := S8x2048x1024) (m ((c : Thread nD τ).loc main_arg1))
      ∧ Real (S := S8x256x1024) (m ((c : Thread nD τ).loc main_arg3)) := by
  obtain ⟨h0, h1, h3⟩ := h c
  exact ⟨fun i => real_of_cmp _ (congrFun h0 i), fun i => real_of_cmp _ (congrFun h1 i), fun i => real_of_cmp _ (congrFun h3 i)⟩

/-- Kernel and reference end with the same result. -/
theorem algebraic : Cert.algebraic_MlaIdeal_MlaRefIdeal_pre_finite_scores := by
  pair_intro
  · run_from Cert.MlaIdeal.Gen.run_main m g
  · run_from Cert.MlaRefIdeal.Value.run m' g'
    obtain ⟨f0, f1, f3⟩ := real_of_pre m hpre c
    obtain ⟨e0, e1, e2, e3, e4⟩ := hagree c
    refine Eq.trans ?_ (final m c f0 f1 f3).symm
    rw [Cert.MlaRefIdeal.Read.val_main_v32_eq, e0, e1, e2, e3, e4]

/-- The reference's frame: its run keeps the arguments and it declares no semaphore. -/
theorem frame_ref : Cert.quiescent_MlaRefIdeal := fun m g _ =>
  (θ_run (Cert.MlaRefIdeal.defs (F := Ideal)) _ _).mono (fun r h => ⟨fun c => (h c).2, sem_eq_zero_of_no_sems (by decide) r.2⟩)
    (Cert.MlaRefIdeal.Value.run (F := Ideal) m g)

end Cert.MlaIdeal.At

end
-- ==== Proof.GluValue.lean ====
/- The gated linear unit's result array after the run is the reference's. -/
module

public import proofs.«01_k».proof.Defs
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal.Read
public import Idealize.ShloMosaic.Lib.Pipeline.ValueKit

@[expose] public section

set_option maxRecDepth 16384

noncomputable section

namespace Cert.GluIdeal.At

open Cert.GluIdeal Cert.GluIdeal.Gen Idealize.ShloMosaic Idealize.ShloMosaic.TcCoe Idealize.SL.Sem
open Idealize.ShloMosaic.Pipeline (Dat)
open Cert.GluRefIdeal.Read

variable (m : (ℓ : Loc nD τ sig) → Buf (Elt Ideal) ℓ)

/-- Which block of each array a grid point reads and writes. -/
theorem idx : ∀ t : Fin cfg0.N, win0_0.index t = ![t.val, 0] ∧ win0_1.index t = ![0, 0] ∧ win0_2.index t = ![t.val / 4, 0, 0] ∧ win0_3.index t = ![t.val / 4, 0, 0] ∧ win0_4.index t = ![0, 0] ∧ win0_5.index t = ![0, 0] ∧ win0_6.index t = ![t.val, 0] :=
  (by decide +kernel : ∀ t : Fin grid0.N, _)

/-- The reference's result from the kernel's argument arrays. -/
abbrev REF (c : Dev nD) : FVec Ideal S16384x1024 .f32 :=
  val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point leaves in the result's buffer is the reference's block. -/
theorem point (c : Dev nD) (t : Fin cfg0.N) (y : S512x1024.Idx) :
    k0_pay1 (iblk m c 0 t) (iblk m c 1 t) (iblk m c 2 t) (iblk m c 3 t) (iblk m c 4 t) (iblk m c 5 t) y = REF m c (((cfg0.win 6).blk t).view.emb y) := by
  have ht : t.val < 32 := lt_of_lt_of_eq t.isLt N_0
  pointwise [k0_pay1,
    val_main_v0, val_main_v1, val_main_v2, val_main_cst, val_main_v3, val_main_v4, val_main_cst_0, val_main_v5, val_main_v6, val_main_cst_1,
    val_main_v7, val_main_v8, val_main_v9, val_main_v10, val_main_v11, val_main_v12, val_main_v13, val_main_v14, val_main_v15, val_main_v16,
    val_main_v17, val_main_v18, val_main_v19, val_main_cst_2, val_main_v20, val_main_v21, val_main_v22, val_main_v23, val_main_v24, val_main_v25,
    val_main_v26, val_main_v27, val_main_v28, val_main_v29, val_main_v30, val_main_v31, val_main_v32, val_main_v33, val_main_v34, val_main_v35,
    val_main_v36, val_main_cst_3, val_main_v37, val_main_v38, val_main_cst_4, val_main_v39, val_main_v40, val_main_v41, val_main_v42]
  simp only [Ideal.logistic]
  blk_point [iblk, V, idx t]

/-- The result array after the run. -/
theorem final (c : Dev nD) : (dats m 0 c).arrAt 6 (cfgs 0).N = REF m c := by
  refine (dats m 0 c).arrAt_eq_of_covers 6 _ (by decide +kernel) fun t hf y => ?_
  blk_simp
  rw [after0_6]
  frame_out
  exact point m c t y

/-- Kernel and reference end with the same result. -/
theorem algebraic : Cert.algebraic_GluIdeal_GluRefIdeal := by
  pair_intro
  · run_from Cert.GluIdeal.Gen.run_main m g
  · run_from Cert.GluRefIdeal.Value.run m' g'
    obtain ⟨e0, e1, e2, e3, e4, e5⟩ := hagree c
    refine Eq.trans ?_ (final m c).symm
    rw [Cert.GluRefIdeal.Read.val_main_v42_eq, e0, e1, e2, e3, e4, e5]

/-- The reference's frame: its run keeps the arguments and it declares no semaphore. -/
theorem frame_ref : Cert.quiescent_GluRefIdeal := fun m g _ =>
  (θ_run (Cert.GluRefIdeal.defs (F := Ideal)) _ _).mono (fun r h => ⟨fun c => (h c).2, sem_eq_zero_of_no_sems (by decide) r.2⟩)
    (Cert.GluRefIdeal.Value.run (F := Ideal) m g)

end Cert.GluIdeal.At

end
-- ==== Proof.OutValue.lean ====
/- The output projection's result array after the run is the reference's. -/
module

public import proofs.«01_k».proof.Defs
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit

@[expose] public section

set_option maxRecDepth 16384

noncomputable section

namespace Cert.OutProjIdeal.At

open Cert.OutProjIdeal Cert.OutProjIdeal.Gen Idealize.ShloMosaic Idealize.ShloMosaic.TcCoe Idealize.SL.Sem
open Idealize.ShloMosaic.Pipeline (Dat)
open Cert.OutProjRefIdeal.Read

variable (m : (ℓ : Loc nD τ sig) → Buf (Elt Ideal) ℓ)

/-- Which block of each array a grid point reads and writes. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val / 4, 0, 0] ∧ win0_6.index t = ![t.val, 0] :=
  (by decide +kernel : ∀ t : Fin grid0.N, _)

/-- The reference's result from the kernel's argument arrays. -/
abbrev REF (c : Dev nD) : FVec Ideal S16384x1024 .f32 :=
  val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a grid point leaves in the result's buffer is the reference's block. -/
theorem point (c : Dev nD) (t : Fin cfg0.N) (y : S512x1024.Idx) :
    k0_pay1 (iblk m c 0 t) (iblk m c 2 t) (iblk m c 1 t) (iblk m c 3 t) (iblk m c 4 t) (iblk m c 5 t) y = REF m c (((cfg0.win 6).blk t).view.emb y) := by
  have ht : t.val < 32 := lt_of_lt_of_eq t.isLt N_0
  pointwise [k0_pay1,
    val_main_v0, val_main_v1, val_main_v2, val_main_v3, val_main_v4, val_main_v5, val_main_v6, val_main_v7, val_main_v8, val_main_v9, val_main_v10,
    val_main_v11, val_main_v12, val_main_v13]
  blk_point [iblk, V, idx t]

/-- The result array after the run. -/
theorem final (c : Dev nD) : (dats m 0 c).arrAt 6 (cfgs 0).N = REF m c := by
  refine (dats m 0 c).arrAt_eq_of_covers 6 _ (by decide +kernel) fun t hf y => ?_
  blk_simp
  rw [after0_6]
  frame_out
  exact point m c t y

/-- Kernel and reference end with the same result. -/
theorem algebraic : Cert.algebraic_OutProjIdeal_OutProjRefIdeal := by
  pair_intro
  · run_from Cert.OutProjIdeal.Gen.run_main m g
  · run_from Cert.OutProjRefIdeal.Value.run m' g'
    obtain ⟨e0, e1, e2, e3, e4, e5⟩ := hagree c
    refine Eq.trans ?_ (final m c).symm
    rw [Cert.OutProjRefIdeal.Read.val_main_v13_eq]

/-- The reference's frame: its run keeps the arguments and it declares no semaphore. -/
theorem frame_ref : Cert.quiescent_OutProjRefIdeal := fun m g _ =>
  (θ_run (Cert.OutProjRefIdeal.defs (F := Ideal)) _ _).mono (fun r h => ⟨fun c => (h c).2, sem_eq_zero_of_no_sems (by decide) r.2⟩)
    (Cert.OutProjRefIdeal.Value.run (F := Ideal) m g)

end Cert.OutProjIdeal.At

end
-- ==== Proof.TailBase.lean ====
/- The window of rows that the convolution gathers. -/
module

public import proofs.«01_k».proof.Defs
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import Idealize.ShloMosaic.Lib.Pipeline.ReadBack
public import Idealize.ShloMosaic.Lib.Pipeline.ValueKit

@[expose] public section

set_option maxRecDepth 16384

noncomputable section

namespace Cert.TailIdeal.At

open Cert.TailIdeal Cert.TailIdeal.Gen Idealize.ShloMosaic Idealize.ShloMosaic.TcCoe Idealize.SL.Sem
open Idealize.ShloMosaic.Pipeline (Dat)
open Cert.TailRefIdeal.Read

variable (m : (ℓ : Loc nD τ sig) → Buf (Elt Ideal) ℓ)

/-- Which block of each array a grid point reads and writes. -/
theorem idx : ∀ t : Fin cfg0.N, win0_0.index t = ![t.val / 8, t.val % 8 * 16 - 1, 0] ∧ win0_1.index t = ![t.val / 8, t.val % 8, 0] ∧ win0_2.index t = ![t.val / 8, min ((t.val % 8 + 1) * 16) 127, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val / 8, t.val % 8, 0] ∧ win0_10.index t = ![t.val / 8, 0, 0] ∧ win0_11.index t = ![t.val / 8, t.val % 8, 0] ∧ (grid0.coords t 1).val = t.val % 8 :=
  (by decide +kernel : ∀ t : Fin grid0.N, _)

/-- The batch a grid point works on. -/
def bt (t : Fin cfg0.N) : Fin 8 := ⟨t.val / 8, by have := lt_of_lt_of_eq t.isLt N_0; omega⟩

/-- The position in its sequence of a row of a grid point's block. -/
def ps (t : Fin cfg0.N) (r : Fin 256) : Fin 2048 := ⟨t.val % 8 * 256 + r.val, by omega⟩

/-- A sequence with zeros around it: position `n` holds row `n - 16`. -/
def pd (x : FVec Ideal S8x2048x1024 .f32) (b : Fin 8) (n : ℕ) (d : Fin 1024) : EReal :=
  if h : 16 ≤ n ∧ n < 2064 then x (ix3 b ⟨n - 16, by omega⟩ d) else 0

/-- Entries at equal places are equal. -/
theorem pd_ext (x : FVec Ideal S8x2048x1024 .f32) (b : Fin 8) (n n' : ℕ) (d d' : Fin 1024) (hn : n = n') (hd : d = d') : pd x b n d = pd x b n' d' := by
  rw [hn, hd]

/-- The window a grid point gathers: its rows, 16 before and 16 behind, zeros outside the sequence. -/
def gw (c : Dev nD) (t : Fin cfg0.N) : S288x1024.Idx → EReal := fun y => pd (m ((c : Thread nD τ).loc main_arg0)) (bt t) (t.val % 8 * 256 + (y 0).val) (y 1)

/-- The test for a first block, decided. -/
theorem gt_zero : ∀ j : Fin 8, Scalar.cmpi .sgt (BitVec.ofNat 32 j.val) 0#32 = if 0 < j.val then 1#1 else 0#1 := by decide

/-- The test for a last block, decided. -/
theorem lt_seven : ∀ j : Fin 8, Scalar.cmpi .slt (BitVec.ofNat 32 j.val) 7#32 = if j.val < 7 then 1#1 else 0#1 := by decide

/-- The rows before a block. -/
theorem prev_at (c : Dev nD) (t : Fin cfg0.N) (r : Fin 16) (d : Fin 1024) :
    k0_pay2 (grid0.coords t) (iblk m c 0 t) (ix2 r d) = pd (m ((c : Thread nD τ).loc main_arg0)) (bt t) (t.val % 8 * 256 + r.val) d := by
  have ht : t.val < 64 := lt_of_lt_of_eq t.isLt N_0
  have hc := (idx t).2.2.2.2.2.2.2.2.2.2.2.2
  have hs := gt_zero ⟨t.val % 8, by omega⟩
  rw [pd]
  pointwise [k0_pay2, bt]
  rw [hc, hs]
  by_cases h0 : 0 < t.val % 8
  · rw [if_pos h0, dif_pos (by omega)]
    pointwise []
    blk_point [iblk, V, idx t]
  · rw [if_neg h0, dif_neg (by omega)]
    pointwise []

/-- The rows of a block. -/
theorem cur_at (c : Dev nD) (t : Fin cfg0.N) (r : Fin 256) (d : Fin 1024) :
    k0_pay3 (iblk m c 1 t) (ix2 r d) = pd (m ((c : Thread nD τ).loc main_arg0)) (bt t) (t.val % 8 * 256 + (16 + r.val)) d := by
  have ht : t.val < 64 := lt_of_lt_of_eq t.isLt N_0
  rw [pd, dif_pos (by omega)]
  pointwise [k0_pay3, bt]
  blk_point [iblk, V, idx t]

/-- The rows behind a block. -/
theorem next_at (c : Dev nD) (t : Fin cfg0.N) (r : Fin 16) (d : Fin 1024) :
    k0_pay4 (grid0.coords t) (iblk m c 2 t) (ix2 r d) = pd (m ((c : Thread nD τ).loc main_arg0)) (bt t) (t.val % 8 * 256 + (272 + r.val)) d := by
  have ht : t.val < 64 := lt_of_lt_of_eq t.isLt N_0
  have hc := (idx t).2.2.2.2.2.2.2.2.2.2.2.2
  have hs := lt_seven ⟨t.val % 8, by omega⟩
  rw [pd]
  pointwise [k0_pay4, bt]
  rw [hc, hs]
  by_cases h0 : t.val % 8 < 7
  · rw [if_pos h0, dif_pos (by omega)]
    pointwise []
    blk_point [iblk, V, idx t]
  · rw [if_neg h0, dif_neg (by omega)]
    pointwise []

/-- An index of a halo of 16 rows is a row and a lane. -/
theorem split_16 (x : S16x1024.Idx) : ∃ (r : Fin 16) (d : Fin 1024), x = ix2 r d :=
  ⟨x 0, x 1, by blk_ext⟩

/-- An index of a block's rows is a row and a lane. -/
theorem split_256 (x : S256x1024.Idx) : ∃ (r : Fin 256) (d : Fin 1024), x = ix2 r d :=
  ⟨x 0, x 1, by blk_ext⟩

/-- A load of the gathered window. -/
theorem win_load (c : Dev nD) (t : Fin cfg0.N) (r : Rect S288x1024) :
    (View.whole cc0_scratch0).readCov (Val := Elt Ideal) ([⟨Rect.unit ![272, 0] ![16, 1024] inb_S288x1024_S16x1024_272_0, k0_pay4 (grid0.coords t) (iblk m c 2 t)⟩,
      ⟨Rect.unit ![16, 0] ![256, 1024] inb_S288x1024_S256x1024_16_0, k0_pay3 (iblk m c 1 t)⟩,
      ⟨Rect.unit ![0, 0] ![16, 1024] inb_S288x1024_S16x1024_0_0, k0_pay2 (grid0.coords t) (iblk m c 0 t)⟩] : List (View.Piece (Elt Ideal) S288x1024 .f32)) r.toLoadRect = View.ld (Val := Elt Ideal) (S := S288x1024) (e' := .f32) (gw m c t) r := by
  rw [View.readCov_eq_canon']
  funext j
  show View.canon (Val := Elt Ideal) (e := .f32) [⟨Rect.unit ![272, 0] ![16, 1024] inb_S288x1024_S16x1024_272_0, k0_pay4 (grid0.coords t) (iblk m c 2 t)⟩,
      ⟨Rect.unit ![16, 0] ![256, 1024] inb_S288x1024_S256x1024_16_0, k0_pay3 (iblk m c 1 t)⟩,
      ⟨Rect.unit ![0, 0] ![16, 1024] inb_S288x1024_S16x1024_0_0, k0_pay2 (grid0.coords t) (iblk m c 0 t)⟩] (r.emb j) = gw m c t (r.emb j)
  generalize r.emb j = y
  refine View.canon_apply_of_pieces (Val := Elt Ideal) (S := S288x1024) (e := .f32) (gw m c t) ([⟨Rect.unit ![272, 0] ![16, 1024] inb_S288x1024_S16x1024_272_0, k0_pay4 (grid0.coords t) (iblk m c 2 t)⟩,
      ⟨Rect.unit ![16, 0] ![256, 1024] inb_S288x1024_S256x1024_16_0, k0_pay3 (iblk m c 1 t)⟩,
      ⟨Rect.unit ![0, 0] ![16, 1024] inb_S288x1024_S16x1024_0_0, k0_pay2 (grid0.coords t) (iblk m c 0 t)⟩]) (View.PiecesOf.mem (show View.PiecesOf (Val := Elt Ideal) (s := S288x1024) (e := .f32) (gw m c t) ([⟨Rect.unit ![272, 0] ![16, 1024] inb_S288x1024_S16x1024_272_0, k0_pay4 (grid0.coords t) (iblk m c 2 t)⟩,
      ⟨Rect.unit ![16, 0] ![256, 1024] inb_S288x1024_S256x1024_16_0, k0_pay3 (iblk m c 1 t)⟩,
      ⟨Rect.unit ![0, 0] ![16, 1024] inb_S288x1024_S16x1024_0_0, k0_pay2 (grid0.coords t) (iblk m c 0 t)⟩]) from ⟨fun x => ?_, fun x => ?_, fun x => ?_, trivial⟩)) y ?_
  · obtain ⟨r, d, rfl⟩ := split_16 x
    refine (next_at m c t r d).trans (pd_ext _ _ _ _ _ _ ?_ ?_)
    · simp
    · exact Fin.ext (by simp)
  · obtain ⟨r, d, rfl⟩ := split_256 x
    refine (cur_at m c t r d).trans (pd_ext _ _ _ _ _ _ ?_ ?_)
    · simp
    · exact Fin.ext (by simp)
  · obtain ⟨r, d, rfl⟩ := split_16 x
    refine (prev_at m c t r d).trans (pd_ext _ _ _ _ _ _ ?_ ?_)
    · simp
    · exact Fin.ext (by simp)
  · have h1 : (y 1).val < 1024 := (y 1).isLt
    have h0 : (y 0).val < 288 := (y 0).isLt
    by_cases h : (y 0).val < 16
    · refine ⟨_, List.mem_cons_of_mem _ (List.mem_cons_of_mem _ List.mem_cons_self), ?_⟩
      rw [Rect.mem_set_unit]
      intro a
      fin_cases a <;> simp <;> omega
    · by_cases h' : (y 0).val < 272
      · refine ⟨_, List.mem_cons_of_mem _ List.mem_cons_self, ?_⟩
        rw [Rect.mem_set_unit]
        intro a
        fin_cases a <;> simp <;> omega
      · refine ⟨_, List.mem_cons_self, ?_⟩
        rw [Rect.mem_set_unit]
        intro a
        fin_cases a <;> simp <;> omega

end Cert.TailIdeal.At

end
-- ==== Proof.TailRow.lean ====
/- The depthwise convolution and the layer norm, row by row. -/
module

public import proofs.«01_k».proof.Defs
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.TailBase
public import Idealize.ShloMosaic.Lib.Pipeline.ValueKit

@[expose] public section

set_option maxRecDepth 16384

noncomputable section

namespace Cert.TailIdeal.At

open Cert.TailIdeal Cert.TailIdeal.Gen Idealize.ShloMosaic Idealize.ShloMosaic.TcCoe Idealize.SL.Sem
open Idealize.ShloMosaic.Pipeline (Dat)
open Cert.TailRefIdeal.Read

variable (x0 : FVec Ideal Cert.TailRefIdeal.S8x2048x1024 .f32) (x1 : FVec Ideal Cert.TailRefIdeal.S31x1024 .f32) (x2 : FVec Ideal Cert.TailRefIdeal.S1x1024 .f32) (x3 : FVec Ideal Cert.TailRefIdeal.S1x1024 .f32)

/-- The convolution's value: 31 neighbouring rows weighted, and the bias. -/
def cv (b : Fin 8) (n : ℕ) (d : Fin 1024) : EReal := (∑ k : Fin 31, pd x0 b (n + (k.val + 1)) d * x1 (ix2 k d)) + x2 (ix2 0 d)

/-- A row, normalised and scaled. -/
def lnrow (x g : Fin 1024 → EReal) (d : Fin 1024) : EReal :=
  (x d - Ideal.div (∑ k, x k) (Ideal.ofBits .f32 0x44800000#32)) * Ideal.rsqrt (Ideal.div (∑ k, (x k - Ideal.div (∑ k, x k) (Ideal.ofBits .f32 0x44800000#32)) * (x k - Ideal.div (∑ k, x k) (Ideal.ofBits .f32 0x44800000#32))) (Ideal.ofBits .f32 0x44800000#32) + Ideal.ofBits .f32 0x358637BD#32) * g d

/-- Equal rows are normalised equally. -/
theorem lnrow_ext (x x' g g' : Fin 1024 → EReal) (d : Fin 1024) (h : ∀ d, x d = x' d) (hg : ∀ d, g d = g' d) : lnrow x g d = lnrow x' g' d := by
  rw [funext h, funext hg]

/-- The reference's padded sequence. -/
theorem pad_at (b : Fin 8) (n : Fin 2078) (d : Fin 1024) : val_main_v0 (F := Ideal) x0 (ix3 b n d) = pd x0 b (n.val + 1) d := by
  rw [pd]
  pointwise [val_main_v0, val_main_call0_v0, val_main_c]
  have hz : (FloatOps.sitofp FTy.f32 0#32 : Ideal .f32) = (0 : EReal) := by
    simp [FloatOps.sitofp]
  rw [hz]
  by_cases h : 15 ≤ n.val ∧ n.val - 15 < 2048
  · rw [dif_pos h, dif_pos (by omega)]
    exact congrArg x0 (by blk_ext)
  · rw [dif_neg h, dif_neg (by omega)]

/-- A sum of 31 terms, written out. -/
theorem sum_31 (f : Fin 31 → EReal) : ∑ k, f k =  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30  := by
  simp only [Fin.sum_univ_castSucc, Fin.sum_univ_zero, zero_add]
  rfl

set_option maxHeartbeats 4000000 in
/-- The reference's convolution. -/
theorem conv_ref (b : Fin 8) (s : Fin 2048) (d : Fin 1024) : val_main_v220 (F := Ideal) x0 x1 x2 (ix3 b s d) = cv x0 x1 x2 b s.val d := by
  rw [cv]
  pointwise [
    val_main_v1, val_main_v2, val_main_v3, val_main_v4, val_main_v5, val_main_v6, val_main_v7, val_main_v8, val_main_v9, val_main_v10, val_main_v11,
    val_main_v12, val_main_v13, val_main_v14, val_main_v15, val_main_v16, val_main_v17, val_main_v18, val_main_v19, val_main_v20, val_main_v21,
    val_main_v22, val_main_v23, val_main_v24, val_main_v25, val_main_v26, val_main_v27, val_main_v28, val_main_v29, val_main_v30, val_main_v31,
    val_main_v32, val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50, val_main_v51,
    val_main_v52, val_main_v53, val_main_v54, val_main_v55, val_main_v56, val_main_v57, val_main_v58, val_main_v59, val_main_v60, val_main_v61,
    val_main_v62, val_main_v63, val_main_v64, val_main_v65, val_main_v66, val_main_v67, val_main_v68, val_main_v69, val_main_v70, val_main_v71,
    val_main_v72, val_main_v73, val_main_v74, val_main_v75, val_main_v76, val_main_v77, val_main_v78, val_main_v79, val_main_v80, val_main_v81,
    val_main_v82, val_main_v83, val_main_v84, val_main_v85, val_main_v86, val_main_v87, val_main_v88, val_main_v89, val_main_v90, val_main_v91,
    val_main_v92, val_main_v93, val_main_v94, val_main_v95, val_main_v96, val_main_v97, val_main_v98, val_main_v99, val_main_v100, val_main_v101,
    val_main_v102, val_main_v103, val_main_v104, val_main_v105, val_main_v106, val_main_v107, val_main_v108, val_main_v109, val_main_v110,
    val_main_v111, val_main_v112, val_main_v113, val_main_v114, val_main_v115, val_main_v116, val_main_v117, val_main_v118, val_main_v119,
    val_main_v120, val_main_v121, val_main_v122, val_main_v123, val_main_v124, val_main_v125, val_main_v126, val_main_v127, val_main_v128,
    val_main_v129, val_main_v130, val_main_v131, val_main_v132, val_main_v133, val_main_v134, val_main_v135, val_main_v136, val_main_v137,
    val_main_v138, val_main_v139, val_main_v140, val_main_v141, val_main_v142, val_main_v143, val_main_v144, val_main_v145, val_main_v146,
    val_main_v147, val_main_v148, val_main_v149, val_main_v150, val_main_v151, val_main_v152, val_main_v153, val_main_v154, val_main_v155,
    val_main_v156, val_main_v157, val_main_v158, val_main_v159, val_main_v160, val_main_v161, val_main_v162, val_main_v163, val_main_v164,
    val_main_v165, val_main_v166, val_main_v167, val_main_v168, val_main_v169, val_main_v170, val_main_v171, val_main_v172, val_main_v173,
    val_main_v174, val_main_v175, val_main_v176, val_main_v177, val_main_v178, val_main_v179, val_main_v180, val_main_v181, val_main_v182,
    val_main_v183, val_main_v184, val_main_v185, val_main_v186, val_main_v187, val_main_v188, val_main_v189, val_main_v190, val_main_v191,
    val_main_v192, val_main_v193, val_main_v194, val_main_v195, val_main_v196, val_main_v197, val_main_v198, val_main_v199, val_main_v200,
    val_main_v201, val_main_v202, val_main_v203, val_main_v204, val_main_v205, val_main_v206, val_main_v207, val_main_v208, val_main_v209,
    val_main_v210, val_main_v211, val_main_v212, val_main_v213, val_main_v214, val_main_v215, val_main_v216, val_main_v217, val_main_v218,
    val_main_v219, val_main_v220]
  simp only [pad_at, sum_31]
  have hk : ∀ k : ℕ, k + s.val + 1 = s.val + (k + 1) := fun k => by omega
  simp only [hk]
  rfl

set_option maxHeartbeats 1000000 in
/-- The reference's layer norm. -/
theorem ln_ref (b : Fin 8) (s : Fin 2048) (d : Fin 1024) : val_main_v243 (F := Ideal) x0 x1 x2 x3 (ix3 b s d) = lnrow (fun d => val_main_v220 (F := Ideal) x0 x1 x2 (ix3 b s d)) (fun d => x3 (ix2 0 d)) d := by
  rw [lnrow]
  pointwise [
    val_main_v221, val_main_v222, val_main_cst, val_main_v223, val_main_v224, val_main_cst_0, val_main_v225, val_main_v226, val_main_v227,
    val_main_v228, val_main_v229, val_main_cst_1, val_main_v230, val_main_v231, val_main_cst_2, val_main_v232, val_main_v233, val_main_v234,
    val_main_v235, val_main_cst_3, val_main_v236, val_main_v237, val_main_v238, val_main_v239, val_main_v240, val_main_v241, val_main_v242,
    val_main_v243]

set_option maxHeartbeats 1000000 in
/-- The kernel's layer norm. -/
theorem ln_ker (v183 v188 v193 v198 v203 : FVec Ideal S256x1024 .f32) (v189 v194 v199 v204 v224 : FVec Ideal S1x1024 .f32) (p : Fin 256) (d : Fin 1024) :
    k0_pay20 v183 v188 v189 v193 v194 v198 v199 v203 v204 v224 (ix2 p d) = lnrow (fun d => v183 (ix2 p d) + v188 (ix2 p d) * v189 (ix2 0 d) + v193 (ix2 p d) * v194 (ix2 0 d) + v198 (ix2 p d) * v199 (ix2 0 d) + v203 (ix2 p d) * v204 (ix2 0 d)) (fun d => v224 (ix2 0 d)) d := by
  rw [lnrow]
  pointwise [k0_pay20]

end Cert.TailIdeal.At

end
-- ==== Proof.TailValue.lean ====
/- The result array of the convolution tail after the run is the reference's. -/
module

public import proofs.«01_k».proof.Defs
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.TailRow
public import Idealize.ShloMosaic.Lib.Pipeline.ValueKit

@[expose] public section

set_option maxRecDepth 16384

noncomputable section

namespace Cert.TailIdeal.At

open Cert.TailIdeal Cert.TailIdeal.Gen Idealize.ShloMosaic Idealize.ShloMosaic.TcCoe Idealize.SL.Sem
open Idealize.ShloMosaic.Pipeline (Dat)
open Cert.TailRefIdeal.Read

variable (m : (ℓ : Loc nD τ sig) → Buf (Elt Ideal) ℓ)

/-- The reference's result from the kernel's argument arrays. -/
abbrev REF (c : Dev nD) : FVec Ideal S8x2048x1024 .f32 :=
  val_main_v259 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The reference's normalised rows from the kernel's argument arrays. -/
abbrev NRM (c : Dev nD) (b : Fin 8) (n : ℕ) (d : Fin 1024) : EReal :=
  lnrow (fun d => cv (m ((c : Thread nD τ).loc main_arg0)) (m ((c : Thread nD τ).loc main_arg1)) (m ((c : Thread nD τ).loc main_arg2)) b n d) (fun d => (m ((c : Thread nD τ).loc main_arg3)) (ix2 0 d)) d

/-- The reference's layer norm of its convolution. -/
theorem nrm_ref (c : Dev nD) (b : Fin 8) (s : Fin 2048) (d : Fin 1024) : val_main_v243 (F := Ideal) (m ((c : Thread nD τ).loc main_arg0)) (m ((c : Thread nD τ).loc main_arg1)) (m ((c : Thread nD τ).loc main_arg2)) (m ((c : Thread nD τ).loc main_arg3)) (ix3 b s d) = NRM m c b s.val d :=
  (ln_ref _ _ _ _ b s d).trans (lnrow_ext _ _ _ _ d (fun d => conv_ref _ _ _ b s d) fun _ => rfl)

/-- What a grid point leaves in the result's buffer, from its normalised rows, is the reference's block. -/
theorem point (c : Dev nD) (t : Fin cfg0.N) (A : FVec Ideal S256x1024 .f32) (hA : ∀ p d, A (ix2 p d) = NRM m c (bt t) (ps t p).val d) (y : S1x256x1024.Idx) :
    k0_pay1 A (iblk m c 6 t) (iblk m c 7 t) (iblk m c 8 t) (iblk m c 9 t) (iblk m c 10 t) y = REF m c (((cfg0.win 11).blk t).view.emb y) := by
  have ht : t.val < 64 := lt_of_lt_of_eq t.isLt N_0
  have hN : ∀ p d, A (ix2 p d) = val_main_v243 (F := Ideal) (m ((c : Thread nD τ).loc main_arg0)) (m ((c : Thread nD τ).loc main_arg1)) (m ((c : Thread nD τ).loc main_arg2)) (m ((c : Thread nD τ).loc main_arg3)) (ix3 (bt t) (ps t p) d) := fun p d => (hA p d).trans (nrm_ref m c _ _ _).symm
  pointwise [k0_pay1,
    val_main_v222, val_main_v244, val_main_v245, val_main_v246, val_main_call1_v0, val_main_call1_v1, val_main_call1_cst, val_main_call1_v2,
    val_main_call1_v3, val_main_call1_cst_0, val_main_call1_v4, val_main_call1_v5, val_main_v247, val_main_v248, val_main_v249, val_main_v250,
    val_main_v251, val_main_v252, val_main_v253, val_main_v254, val_main_v255, val_main_v256, val_main_v257, val_main_v258, val_main_v259]
  simp only [Ideal.logistic, hN]
  blk_point [iblk, V, idx t, bt, ps]
  refine (hN (y 1) x).trans ?_
  blk_point [idx t, bt, ps]

/-- An entry of the gathered window. -/
theorem gw_at (c : Dev nD) (t : Fin cfg0.N) (q : Fin 288) (d : Fin 1024) : gw m c t (ix2 q d) = pd (m ((c : Thread nD τ).loc main_arg0)) (bt t) (t.val % 8 * 256 + q.val) d := rfl

/-- The weights of the taps. -/
theorem taps_at (c : Dev nD) (t : Fin cfg0.N) (k : Fin 31) (d : Fin 1024) : iblk m c 3 t (ix2 k d) = (m ((c : Thread nD τ).loc main_arg1)) (ix2 k d) := by
  blk_point [iblk, V, idx t]

/-- The bias of the convolution. -/
theorem bias_at (c : Dev nD) (t : Fin cfg0.N) (d : Fin 1024) : iblk m c 4 t (ix2 0 d) = (m ((c : Thread nD τ).loc main_arg2)) (ix2 0 d) := by
  blk_point [iblk, V, idx t]

/-- The scale of the layer norm. -/
theorem scale_at (c : Dev nD) (t : Fin cfg0.N) (d : Fin 1024) : iblk m c 5 t (ix2 0 d) = (m ((c : Thread nD τ).loc main_arg3)) (ix2 0 d) := by
  blk_point [iblk, V, idx t]

set_option maxHeartbeats 4000000 in
/-- The result array after the run. -/
theorem final (c : Dev nD) : (dats m 0 c).arrAt 11 (cfgs 0).N = REF m c := by
  refine (dats m 0 c).arrAt_eq_of_covers 11 _ (by decide +kernel) fun t hf y => ?_
  blk_simp
  rw [after0_11]
  unfold outsAt0
  frame_open
  simp (disch := decide) only [View.read_writes_junk_eq_canon, View.canon_cons_unit_lit', View.readAt_eq_ld, Memref.IsWhole.read_unread, View.ld_unit_lit']
  simp (disch := decide) only [↓ View.readCov_fill]
  simp only [win_load]
  refine point m c t _ (fun p d => ?_) y
  rw [ln_ker]
  refine lnrow_ext _ _ _ _ d (fun d => ?_) fun d => ?_
  · rw [cv, sum_31]
    pointwise [k0_pay5, k0_pay6, k0_pay7, k0_pay8, k0_pay9, k0_pay10, k0_pay11, k0_pay12, k0_pay13, k0_pay14, k0_pay15, k0_pay16, k0_pay17, k0_pay18, k0_pay19]
    have hp : (ps t p).val = t.val % 8 * 256 + p.val := rfl
    have h1 : ∀ a, t.val % 8 * 256 + (a + p.val) = t.val % 8 * 256 + p.val + a := fun a => by omega
    have h2 : ∀ a b, t.val % 8 * 256 + (a + (b + p.val)) = t.val % 8 * 256 + p.val + (a + b) := fun a b => by omega
    simp only [gw_at, taps_at, bias_at, hp, h1, h2, Nat.reduceAdd, zero_add]
    abel
  · exact scale_at m c t d

set_option maxHeartbeats 1000000 in
/-- Kernel and reference end with the same result. -/
theorem algebraic : Cert.algebraic_TailIdeal_TailRefIdeal := by
  pair_intro
  · run_from Cert.TailIdeal.Gen.run_main m g
  · refine Idealize.ShloMosaic.θ_run_mono (Cert.TailRefIdeal.Value.run (F := Ideal) m' g') ?_
    intro r hr c
    obtain ⟨e0, e1, e2, e3, e4, e5, e6, e7, e8⟩ := hagree c
    refine ⟨(hr c).1.trans ((Cert.TailRefIdeal.Read.val_main_v259_eq _).trans (Eq.trans ?_ (final m c).symm)), (hr c).2⟩
    show val_main_v259 (F := Ideal) (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) = REF m c
    rw [e0, e1, e2, e3, e4, e5, e6, e7, e8]

/-- The reference's frame: its run keeps the arguments and it declares no semaphore. -/
theorem frame_ref : Cert.quiescent_TailRefIdeal := fun m g _ =>
  (θ_run (Cert.TailRefIdeal.defs (F := Ideal)) _ _).mono (fun r h => ⟨fun c => (h c).2, sem_eq_zero_of_no_sems (by decide) r.2⟩)
    (Cert.TailRefIdeal.Value.run (F := Ideal) m g)

end Cert.TailIdeal.At

end
-- ==== Proof.LatBase.lean ====
/- The joint projection and the products of the queries, keys and values, block by block. -/
module

public import proofs.«01_k».proof.Defs
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import Idealize.ShloMosaic.Lib.Pipeline.ValueKit

@[expose] public section

set_option maxRecDepth 16384

noncomputable section

namespace Cert.LatIdeal.At

open Cert.LatIdeal Cert.LatIdeal.Gen Idealize.ShloMosaic Idealize.ShloMosaic.TcCoe Idealize.SL.Sem
open Idealize.ShloMosaic.Pipeline (Dat)
open Cert.LatRefIdeal.Read

variable (m : (ℓ : Loc nD τ sig) → Buf (Elt Ideal) ℓ)

/-- Which block of each array a grid point reads and writes. -/
theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val % 8, 0] ∧ win0_15.index t = ![t.val % 8, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] :=
  (by decide +kernel : ∀ t : Fin grid0.N, _)

/-- The batch a grid point works on. -/
def bt (t : Fin cfg0.N) : Fin 8 := ⟨t.val / 8, by have := lt_of_lt_of_eq t.isLt N_0; omega⟩

/-- The position in its sequence of a row of a grid point's block. -/
def ps (t : Fin cfg0.N) (r : Fin 256) : Fin 2048 := ⟨t.val % 8 * 256 + r.val, by omega⟩

/-- The reference's projection of the modulated rows by the joint input weights. -/
abbrev Z (c : Dev nD) : FVec Ideal Cert.LatRefIdeal.S8x2048x2304 .f32 := val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
/-- The kernel's projection of a block's modulated rows is the reference's. -/
theorem z_eq (c : Dev nD) (t : Fin cfg0.N) (r : Fin 256) (j : Fin 2304) :
    k0_pay3 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = Z m c (ix3 (bt t) (ps t r) j) := by
  have ht : t.val < 64 := lt_of_lt_of_eq t.isLt N_0
  pointwise [k0_pay3, bt, ps,
    val_main_v0, val_main_v1, val_main_v2, val_main_cst, val_main_v3, val_main_v4, val_main_cst_0, val_main_v5, val_main_v6, val_main_cst_1,
    val_main_v7, val_main_v8, val_main_v9, val_main_v10, val_main_v11, val_main_v12, val_main_v13, val_main_v14, val_main_v15, val_main_v16,
    val_main_v17, val_main_v18, val_main_v19, val_main_cst_2, val_main_v20, val_main_v21, val_main_v22, val_main_v23, val_main_v24, val_main_v25,
    val_main_v26, val_main_v27, val_main_v28]
  blk_point [iblk, V, idx t]

/-- The same at a column given by its number. -/
theorem z_eq_at (c : Dev nD) (t : Fin cfg0.N) (r : Fin 256) (j j' : Fin 2304) (h : j.val = j'.val) :
    k0_pay3 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = Z m c (ix3 (bt t) (ps t r) j') := by
  rw [z_eq, Fin.ext h]

/-- The queries' latent rows are the reference's. -/
theorem cq_eq (c : Dev nD) (t : Fin cfg0.N) (r : Fin 256) (j : Fin 384) :
    k0_pay4 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) j) := by
  pointwise [k0_pay4, val_main_v29]
  exact z_eq m c t r _

/-- The keys' and values' latent rows are the reference's. -/
theorem ckv_eq (c : Dev nD) (t : Fin cfg0.N) (r : Fin 256) (j : Fin 256) :
    k0_pay5 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) j) := by
  pointwise [k0_pay5, val_main_v30]
  exact z_eq m c t r _

/-- The key lanes shared by the heads are the reference's. -/
theorem kr_eq (c : Dev nD) (t : Fin cfg0.N) (r : Fin 256) (j : Fin 128) :
    k0_pay6 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) j) := by
  pointwise [k0_pay6, val_main_v31]
  exact z_eq m c t r _

/-- The neighbourhood queries before their norms are the reference's. -/
theorem naq_eq (c : Dev nD) (t : Fin cfg0.N) (r : Fin 256) (j : Fin 512) :
    k0_pay7 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) ⟨0 + j.val, by omega⟩) := by
  pointwise [k0_pay7, val_main_v32]
  exact z_eq_at m c t r _ _ (by simp only <;> omega)

/-- The neighbourhood keys before their norms are the reference's. -/
theorem nak_eq (c : Dev nD) (t : Fin cfg0.N) (r : Fin 256) (j : Fin 512) :
    k0_pay8 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) ⟨512 + j.val, by omega⟩) := by
  pointwise [k0_pay8, val_main_v32]
  exact z_eq_at m c t r _ _ (by simp only <;> omega)

/-- The neighbourhood values are the reference's. -/
theorem nav_eq (c : Dev nD) (t : Fin cfg0.N) (r : Fin 256) (j : Fin 512) :
    k0_pay9 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) (ps t r) ⟨1024 + j.val, by omega⟩) := by
  pointwise [k0_pay9, val_main_v32]
  exact z_eq_at m c t r _ _ (by simp only <;> omega)

/-- Every entry of a two-axis array is one at a row and a column. -/
theorem ext2 {α : Type} {a b : Nat} (f : (⟨2, ![a, b]⟩ : Shape).Idx → α) (g : Fin a → Fin b → α) (h : ∀ r j, f (ix2 r j) = g r j) :
    f = fun y => g (y 0) (y 1) := by
  funext y
  rw [← h (y 0) (y 1)]
  exact congrArg f (funext fun i => by fin_cases i <;> rfl)

set_option maxHeartbeats 1000000 in
/-- The kernel's queries before the norms and the rotation are the reference's. -/
theorem q_eq (c : Dev nD) (t : Fin cfg0.N) (r : Fin 256) (j : Fin 1024) :
    k0_pay83 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (ps t r) j) := by
  unfold k0_pay83
  rw [ext2 _ _ (cq_eq m c t)]
  pointwise [k0_pay15,
    val_main_v33, val_main_v34, val_main_cst_3, val_main_v35, val_main_v36, val_main_cst_4, val_main_v37, val_main_v38, val_main_cst_5, val_main_v39,
    val_main_v40, val_main_v41, val_main_v42, val_main_v43, val_main_v44, val_main_v45, val_main_v46, val_main_v47, val_main_v48]
  blk_point [iblk, V, idx t]

set_option maxHeartbeats 1000000 in
/-- The kernel's keys before the shared lanes, the norms and the rotation are the reference's. -/
theorem k_eq (c : Dev nD) (t : Fin cfg0.N) (r : Fin 256) (j : Fin 1024) :
    k0_pay82 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix3 (bt t) (ps t r) j) := by
  unfold k0_pay82 k0_pay80 k0_pay76 k0_pay10
  rw [ext2 _ _ (ckv_eq m c t)]
  pointwise [k0_pay13, k0_pay12, k0_pay81, k0_pay11,
    val_main_v76, val_main_v77, val_main_cst_9, val_main_v78, val_main_v79, val_main_cst_10, val_main_v80, val_main_v81, val_main_cst_11,
    val_main_v82, val_main_v83, val_main_v84, val_main_v85, val_main_v86, val_main_v87, val_main_v88, val_main_v89, val_main_v90, val_main_v91]
  blk_point [iblk, V, idx t]

set_option maxHeartbeats 1000000 in
/-- The kernel's values are the reference's. -/
theorem v_eq (c : Dev nD) (t : Fin cfg0.N) (r : Fin 256) (j : Fin 512) :
    k0_pay14 (k0_pay76 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (Val := Elt Ideal) (S := S1x256) (e' := .f32) (iblk m c 7 t) r0_4) (k0_pay80 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (Val := Elt Ideal) (S := S256x512) (e' := .bf16) (iblk m c 9 t) r0_5) (ix2 r j) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (ix3 (bt t) (ps t r) j) := by
  unfold k0_pay80 k0_pay76 k0_pay10
  rw [ext2 _ _ (ckv_eq m c t)]
  pointwise [k0_pay14, k0_pay12, k0_pay81, k0_pay11,
    val_main_v122, val_main_v123, val_main_cst_15, val_main_v124, val_main_v125, val_main_cst_16, val_main_v126, val_main_v127, val_main_cst_17,
    val_main_v128, val_main_v129, val_main_v130, val_main_v131, val_main_v132, val_main_v133, val_main_v134, val_main_v135, val_main_v136,
    val_main_v137]
  blk_point [iblk, V, idx t]

end Cert.LatIdeal.At

end
-- ==== Proof.LatHeads.lean ====
/- Each head's norm and rotation, from the kernel's values. -/
module

public import proofs.«01_k».proof.Defs
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import Idealize.ShloMosaic.Lib.Pipeline.ValueKit

@[expose] public section

set_option maxRecDepth 16384

noncomputable section

namespace Cert.LatIdeal.At

open Cert.LatIdeal Cert.LatIdeal.Gen Idealize.ShloMosaic Idealize.ShloMosaic.TcCoe Idealize.SL.Sem
open Idealize.ShloMosaic.Pipeline (Dat)
open Cert.LatRefIdeal.Read

/-- The lane that a rotation by half a head brings to a lane. -/
def rot (l : Fin 128) : Fin 128 := ⟨(l.val + 128 - 64) % 128, Nat.mod_lt _ (by decide)⟩

/-- One head's row over the root of its mean square, the mean over the 96 lanes that carry data. -/
def hn (q g : Fin 128 → EReal) (l : Fin 128) : EReal :=
  q l * Ideal.rsqrt (Ideal.div (∑ x, q x * q x) (Ideal.ofBits .f32 0x42C00000#32) + Ideal.ofBits .f32 0x358637BD#32) * g l

/-- The normed row of a head, rotated by its position. -/
def hr (q g cs sn : Fin 128 → EReal) (l : Fin 128) : EReal := hn q g l * cs l + hn q g (rot l) * sn l

/-- A lane of a pair of neighbourhood heads over the root of the mean square of its own head. -/
def na (q g : Fin 128 → EReal) (l : Fin 128) : EReal :=
  q l * Ideal.rsqrt (Ideal.div (∑ x : Fin 64, q ⟨l.val / 64 * 64 + x.val, by omega⟩ * q ⟨l.val / 64 * 64 + x.val, by omega⟩)
    (Ideal.ofBits .f32 0x42800000#32) + Ideal.ofBits .f32 0x358637BD#32) * g l

/-- Times the named reciprocal is over 96. -/
theorem mean96 (s : EReal) : s * (Named.named (F := Ideal) (φ := .f32) Cert.LatIdeal.κ "r96" 1009429163#32 : EReal) = Ideal.div s (Ideal.ofBits .f32 0x42C00000#32) := by
  have e : Ideal.ofBits .f32 0x42C00000#32 = ((96 : ℝ) : EReal) := by
    simp [Ideal.ofBits, Ideal.ieee, -EReal.coe_mul]; norm_num
  have h : (Named.named (F := Ideal) (φ := .f32) Cert.LatIdeal.κ "r96" 1009429163#32 : EReal) = (((96 : ℝ)⁻¹ : ℝ) : EReal) :=
    IdealRules.named_const.ideal_named_scalar _ _ _ _ rfl
  rw [h, e, Ideal.div_coe (by norm_num), one_div]

/-- Times the constant 1/64 is over 64. -/
theorem mean64 (s : EReal) : s * Ideal.ofBits .f32 0x3C800000#32 = Ideal.div s (Ideal.ofBits .f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = (((64 : ℝ)⁻¹ : ℝ) : EReal) := by
    simp [Ideal.ofBits, Ideal.ieee, -EReal.coe_mul]; norm_num
  rw [e, e', Ideal.div_coe (by norm_num), one_div]

/-- The kernel's lane mask tells the first head of a pair from the second. -/
theorem mask (x : Fin 128) : IntOp.cmpi CmpIPredicate.slt (BitVec.ofNat 32 x.val) 64#32 = if x.val < 64 then 1#1 else 0#1 := by
  revert x; decide +kernel

/-- A choice by the lane mask. -/
theorem sel (x : Fin 128) (a b : EReal) :
    Scalar.select (IntOp.cmpi CmpIPredicate.slt (BitVec.ofNat 32 x.val) 64#32) a b = if x.val < 64 then a else b := by
  rw [mask]; split <;> rfl

/-- The sum over the first head's lanes. -/
theorem sum_lo (f : Fin 128 → EReal) :
    (∑ x : Fin 128, Scalar.select (IntOp.cmpi CmpIPredicate.slt (BitVec.ofNat 32 x.val) 64#32) (f x) 0) = ∑ x : Fin 64, f ⟨x.val, by omega⟩ := by
  simp only [sel]
  rw [show (∑ x : Fin 128, if x.val < 64 then f x else 0) = ∑ x : Fin (64 + 64), if x.val < 64 then f x else 0 from rfl, Fin.sum_univ_add]
  simp
  rfl

/-- The sum over the second head's lanes. -/
theorem sum_hi (f : Fin 128 → EReal) :
    (∑ x : Fin 128, Scalar.select (IntOp.cmpi CmpIPredicate.slt (BitVec.ofNat 32 x.val) 64#32) 0 (f x)) = ∑ x : Fin 64, f ⟨64 + x.val, by omega⟩ := by
  simp only [sel]
  rw [show (∑ x : Fin 128, if x.val < 64 then 0 else f x) = ∑ x : Fin (64 + 64), if x.val < 64 then 0 else f x from rfl, Fin.sum_univ_add]
  simp
  rfl

/-- The kernel's form of a pair of neighbourhood heads is the plain one. -/
theorem na_eq (q g : Fin 128 → EReal) (l : Fin 128) :
    q l * Scalar.select (IntOp.cmpi CmpIPredicate.slt (BitVec.ofNat 32 l.val) 64#32)
        (Ideal.rsqrt ((∑ x : Fin 128, Scalar.select (IntOp.cmpi CmpIPredicate.slt (BitVec.ofNat 32 x.val) 64#32) (q x * q x) 0)
          * Ideal.ofBits .f32 0x3C800000#32 + Ideal.ofBits .f32 0x358637BD#32))
        (Ideal.rsqrt ((∑ x : Fin 128, Scalar.select (IntOp.cmpi CmpIPredicate.slt (BitVec.ofNat 32 x.val) 64#32) 0 (q x * q x))
          * Ideal.ofBits .f32 0x3C800000#32 + Ideal.ofBits .f32 0x358637BD#32)) * g l = na q g l := by
  rw [sum_lo (fun x => q x * q x), sum_hi (fun x => q x * q x), sel, mean64, mean64, na]
  by_cases h : l.val < 64
  · rw [if_pos h]
    have h0 : l.val / 64 = 0 := by omega
    simp only [h0, Nat.zero_mul, Nat.zero_add]
  · rw [if_neg h]
    have h1 : l.val / 64 = 1 := by omega
    simp only [h1, Nat.one_mul]

/-- The kernel's query head number 7. -/
theorem qh7 (q : FVec Ideal S256x1024 .f32) (cs sn : Vec Ideal S256x128 .f32) (g : Vec Ideal S1x128 .f32) (r : Fin 256) (l : Fin 128) :
    k0_pay48 q cs sn g (ix2 r l) = hr (fun d => q (ix2 r ⟨896 + d.val, by omega⟩)) (fun d => g (ix2 0 d)) (fun d => cs (ix2 r d)) (fun d => sn (ix2 r d)) l := by
  pointwise [k0_pay48]
  simp only [mean96]
  rfl

/-- The kernel's query head number 6. -/
theorem qh6 (q : FVec Ideal S256x1024 .f32) (cs sn : Vec Ideal S256x128 .f32) (g : Vec Ideal S1x128 .f32) (r : Fin 256) (l : Fin 128) :
    k0_pay45 sn (k0_pay43 q cs g) (k0_pay44 q g) (ix2 r l) = hr (fun d => q (ix2 r ⟨768 + d.val, by omega⟩)) (fun d => g (ix2 0 d)) (fun d => cs (ix2 r d)) (fun d => sn (ix2 r d)) l := by
  pointwise [k0_pay42, k0_pay43, k0_pay44, k0_pay45]
  simp only [mean96]
  rfl

/-- The kernel's query head number 5. -/
theorem qh5 (q : FVec Ideal S256x1024 .f32) (cs sn : Vec Ideal S256x128 .f32) (g : Vec Ideal S1x128 .f32) (r : Fin 256) (l : Fin 128) :
    k0_pay39 cs sn g (k0_pay37 q) (k0_pay38 q) (ix2 r l) = hr (fun d => q (ix2 r ⟨640 + d.val, by omega⟩)) (fun d => g (ix2 0 d)) (fun d => cs (ix2 r d)) (fun d => sn (ix2 r d)) l := by
  pointwise [k0_pay37, k0_pay38, k0_pay39]
  simp only [mean96]
  rfl

/-- The kernel's query head number 4. -/
theorem qh4 (q : FVec Ideal S256x1024 .f32) (cs sn : Vec Ideal S256x128 .f32) (g : Vec Ideal S1x128 .f32) (r : Fin 256) (l : Fin 128) :
    k0_pay34 cs sn g (k0_pay32 q) (k0_pay33 q) (ix2 r l) = hr (fun d => q (ix2 r ⟨512 + d.val, by omega⟩)) (fun d => g (ix2 0 d)) (fun d => cs (ix2 r d)) (fun d => sn (ix2 r d)) l := by
  pointwise [k0_pay32, k0_pay33, k0_pay34]
  simp only [mean96]
  rfl

/-- The kernel's query head number 3. -/
theorem qh3 (q : FVec Ideal S256x1024 .f32) (cs sn : Vec Ideal S256x128 .f32) (g : Vec Ideal S1x128 .f32) (r : Fin 256) (l : Fin 128) :
    k0_pay29 q cs sn g (ix2 r l) = hr (fun d => q (ix2 r ⟨384 + d.val, by omega⟩)) (fun d => g (ix2 0 d)) (fun d => cs (ix2 r d)) (fun d => sn (ix2 r d)) l := by
  pointwise [k0_pay29]
  simp only [mean96]
  rfl

/-- The kernel's query head number 2. -/
theorem qh2 (q : FVec Ideal S256x1024 .f32) (cs sn : Vec Ideal S256x128 .f32) (g : Vec Ideal S1x128 .f32) (r : Fin 256) (l : Fin 128) :
    k0_pay24 q cs sn g (ix2 r l) = hr (fun d => q (ix2 r ⟨256 + d.val, by omega⟩)) (fun d => g (ix2 0 d)) (fun d => cs (ix2 r d)) (fun d => sn (ix2 r d)) l := by
  pointwise [k0_pay24]
  simp only [mean96]
  rfl

/-- The kernel's query head number 1. -/
theorem qh1 (q : FVec Ideal S256x1024 .f32) (cs sn : Vec Ideal S256x128 .f32) (g : Vec Ideal S1x128 .f32) (r : Fin 256) (l : Fin 128) :
    k0_pay20 q cs sn g (ix2 r l) = hr (fun d => q (ix2 r ⟨128 + d.val, by omega⟩)) (fun d => g (ix2 0 d)) (fun d => cs (ix2 r d)) (fun d => sn (ix2 r d)) l := by
  pointwise [k0_pay20]
  simp only [mean96]
  rfl

/-- The kernel's query head number 0. -/
theorem qh0 (q : FVec Ideal S256x1024 .f32) (cs sn : Vec Ideal S256x128 .f32) (g : Vec Ideal S1x128 .f32) (r : Fin 256) (l : Fin 128) :
    k0_pay16 q cs sn g (ix2 r l) = hr (fun d => q (ix2 r ⟨0 + d.val, by omega⟩)) (fun d => g (ix2 0 d)) (fun d => cs (ix2 r d)) (fun d => sn (ix2 r d)) l := by
  pointwise [k0_pay16]
  simp only [mean96]
  rfl

/-- The kernel's key head number 7. -/
theorem kh7 (q : FVec Ideal S256x1024 .f32) (kr : FVec Ideal S256x128 .f32) (cs sn : Vec Ideal S256x128 .f32) (g : Vec Ideal S1x128 .f32) (r : Fin 256) (l : Fin 128) :
    k0_pay49 (k0_pay47 kr q cs sn g) (ix2 r l) = hr (fun d => q (ix2 r ⟨896 + d.val, by omega⟩) + kr (ix2 r d)) (fun d => g (ix2 0 d)) (fun d => cs (ix2 r d)) (fun d => sn (ix2 r d)) l := by
  pointwise [k0_pay47, k0_pay49]
  simp only [mean96]
  rfl

/-- The kernel's key head number 6. -/
theorem kh6 (q : FVec Ideal S256x1024 .f32) (kr : FVec Ideal S256x128 .f32) (cs sn : Vec Ideal S256x128 .f32) (g : Vec Ideal S1x128 .f32) (r : Fin 256) (l : Fin 128) :
    k0_pay46 (k0_pay41 kr q cs sn g) (ix2 r l) = hr (fun d => q (ix2 r ⟨768 + d.val, by omega⟩) + kr (ix2 r d)) (fun d => g (ix2 0 d)) (fun d => cs (ix2 r d)) (fun d => sn (ix2 r d)) l := by
  pointwise [k0_pay41, k0_pay46]
  simp only [mean96]
  rfl

/-- The kernel's key head number 5. -/
theorem kh5 (q : FVec Ideal S256x1024 .f32) (kr : FVec Ideal S256x128 .f32) (cs sn : Vec Ideal S256x128 .f32) (g : Vec Ideal S1x128 .f32) (r : Fin 256) (l : Fin 128) :
    k0_pay40 (k0_pay36 kr q cs sn g) (ix2 r l) = hr (fun d => q (ix2 r ⟨640 + d.val, by omega⟩) + kr (ix2 r d)) (fun d => g (ix2 0 d)) (fun d => cs (ix2 r d)) (fun d => sn (ix2 r d)) l := by
  pointwise [k0_pay36, k0_pay40]
  simp only [mean96]
  rfl

/-- The kernel's key head number 4. -/
theorem kh4 (q : FVec Ideal S256x1024 .f32) (kr : FVec Ideal S256x128 .f32) (cs sn : Vec Ideal S256x128 .f32) (g : Vec Ideal S1x128 .f32) (r : Fin 256) (l : Fin 128) :
    k0_pay35 (k0_pay31 kr q cs sn g) (ix2 r l) = hr (fun d => q (ix2 r ⟨512 + d.val, by omega⟩) + kr (ix2 r d)) (fun d => g (ix2 0 d)) (fun d => cs (ix2 r d)) (fun d => sn (ix2 r d)) l := by
  pointwise [k0_pay31, k0_pay35]
  simp only [mean96]
  rfl

/-- The kernel's key head number 3. -/
theorem kh3 (q : FVec Ideal S256x1024 .f32) (kr : FVec Ideal S256x128 .f32) (cs sn : Vec Ideal S256x128 .f32) (g : Vec Ideal S1x128 .f32) (r : Fin 256) (l : Fin 128) :
    k0_pay30 sn (k0_pay27 kr q cs g) (k0_pay28 kr q g) (ix2 r l) = hr (fun d => q (ix2 r ⟨384 + d.val, by omega⟩) + kr (ix2 r d)) (fun d => g (ix2 0 d)) (fun d => cs (ix2 r d)) (fun d => sn (ix2 r d)) l := by
  pointwise [k0_pay26, k0_pay27, k0_pay28, k0_pay30]
  simp only [mean96]
  rfl

/-- The kernel's key head number 2. -/
theorem kh2 (q : FVec Ideal S256x1024 .f32) (kr : FVec Ideal S256x128 .f32) (cs sn : Vec Ideal S256x128 .f32) (g : Vec Ideal S1x128 .f32) (r : Fin 256) (l : Fin 128) :
    k0_pay25 cs sn g (k0_pay22 kr q) (k0_pay23 kr q) (ix2 r l) = hr (fun d => q (ix2 r ⟨256 + d.val, by omega⟩) + kr (ix2 r d)) (fun d => g (ix2 0 d)) (fun d => cs (ix2 r d)) (fun d => sn (ix2 r d)) l := by
  pointwise [k0_pay22, k0_pay23, k0_pay25]
  simp only [mean96]
  rfl

/-- The kernel's key head number 1. -/
theorem kh1 (q : FVec Ideal S256x1024 .f32) (kr : FVec Ideal S256x128 .f32) (cs sn : Vec Ideal S256x128 .f32) (g : Vec Ideal S1x128 .f32) (r : Fin 256) (l : Fin 128) :
    k0_pay21 cs sn g (k0_pay18 kr q) (k0_pay19 kr q) (ix2 r l) = hr (fun d => q (ix2 r ⟨128 + d.val, by omega⟩) + kr (ix2 r d)) (fun d => g (ix2 0 d)) (fun d => cs (ix2 r d)) (fun d => sn (ix2 r d)) l := by
  pointwise [k0_pay18, k0_pay19, k0_pay21]
  simp only [mean96]
  rfl

/-- The kernel's key head number 0. -/
theorem kh0 (q : FVec Ideal S256x1024 .f32) (kr : FVec Ideal S256x128 .f32) (cs sn : Vec Ideal S256x128 .f32) (g : Vec Ideal S1x128 .f32) (r : Fin 256) (l : Fin 128) :
    k0_pay17 kr q cs sn g (ix2 r l) = hr (fun d => q (ix2 r ⟨0 + d.val, by omega⟩) + kr (ix2 r d)) (fun d => g (ix2 0 d)) (fun d => cs (ix2 r d)) (fun d => sn (ix2 r d)) l := by
  pointwise [k0_pay17]
  simp only [mean96]
  rfl

/-- The kernel's pair of neighbourhood query heads number 3. -/
theorem nq3 (q : FVec Ideal S256x512 .f32) (g : Vec Ideal S1x128 .f32) (r : Fin 256) (l : Fin 128) :
    k0_pay1 k0_pay50 g (k0_pay72 q) (k0_pay74 q k0_pay50) (k0_pay75 q k0_pay50) (ix2 r l) = na (fun d => q (ix2 r ⟨384 + d.val, by omega⟩)) (fun d => g (ix2 0 d)) l := by
  refine Eq.trans ?_ (na_eq _ _ l)
  pointwise [k0_pay1, k0_pay50, k0_pay72, k0_pay73, k0_pay74, k0_pay75]

/-- The kernel's pair of neighbourhood query heads number 2. -/
theorem nq2 (q : FVec Ideal S256x512 .f32) (g : Vec Ideal S1x128 .f32) (r : Fin 256) (l : Fin 128) :
    k0_pay68 q k0_pay50 g (ix2 r l) = na (fun d => q (ix2 r ⟨256 + d.val, by omega⟩)) (fun d => g (ix2 0 d)) l := by
  refine Eq.trans ?_ (na_eq _ _ l)
  pointwise [k0_pay50, k0_pay68]

/-- The kernel's pair of neighbourhood query heads number 1. -/
theorem nq1 (q : FVec Ideal S256x512 .f32) (g : Vec Ideal S1x128 .f32) (r : Fin 256) (l : Fin 128) :
    k0_pay61 k0_pay50 g (k0_pay57 q) (k0_pay59 q k0_pay50) (k0_pay60 q k0_pay50) (ix2 r l) = na (fun d => q (ix2 r ⟨128 + d.val, by omega⟩)) (fun d => g (ix2 0 d)) l := by
  refine Eq.trans ?_ (na_eq _ _ l)
  pointwise [k0_pay50, k0_pay57, k0_pay58, k0_pay59, k0_pay60, k0_pay61]

/-- The kernel's pair of neighbourhood query heads number 0. -/
theorem nq0 (q : FVec Ideal S256x512 .f32) (g : Vec Ideal S1x128 .f32) (r : Fin 256) (l : Fin 128) :
    k0_pay52 q k0_pay50 g (ix2 r l) = na (fun d => q (ix2 r ⟨0 + d.val, by omega⟩)) (fun d => g (ix2 0 d)) l := by
  refine Eq.trans ?_ (na_eq _ _ l)
  pointwise [k0_pay50, k0_pay52]

/-- The kernel's pair of neighbourhood key heads number 3. -/
theorem nk3 (q : FVec Ideal S256x512 .f32) (g : Vec Ideal S1x128 .f32) (r : Fin 256) (l : Fin 128) :
    k0_pay71 k0_pay50 g (k0_pay69 q) (k0_pay70 q) (Scalar.ofBits .f32 0x00000000#32) (ix2 r l) = na (fun d => q (ix2 r ⟨384 + d.val, by omega⟩)) (fun d => g (ix2 0 d)) l := by
  refine Eq.trans ?_ (na_eq _ _ l)
  pointwise [k0_pay50, k0_pay69, k0_pay70, k0_pay71]

/-- The kernel's pair of neighbourhood key heads number 2. -/
theorem nk2 (q : FVec Ideal S256x512 .f32) (g : Vec Ideal S1x128 .f32) (r : Fin 256) (l : Fin 128) :
    k0_pay67 g (k0_pay62 q) (k0_pay64 k0_pay50) (k0_pay65 q k0_pay50) (k0_pay66 q k0_pay50) (ix2 r l) = na (fun d => q (ix2 r ⟨256 + d.val, by omega⟩)) (fun d => g (ix2 0 d)) l := by
  refine Eq.trans ?_ (na_eq _ _ l)
  pointwise [k0_pay50, k0_pay62, k0_pay63, k0_pay64, k0_pay65, k0_pay66, k0_pay67]

/-- The kernel's pair of neighbourhood key heads number 1. -/
theorem nk1 (q : FVec Ideal S256x512 .f32) (g : Vec Ideal S1x128 .f32) (r : Fin 256) (l : Fin 128) :
    k0_pay56 k0_pay50 g (k0_pay53 q) (k0_pay54 q) (k0_pay55 q k0_pay50) (Scalar.ofBits .f32 0x00000000#32) (ix2 r l) = na (fun d => q (ix2 r ⟨128 + d.val, by omega⟩)) (fun d => g (ix2 0 d)) l := by
  refine Eq.trans ?_ (na_eq _ _ l)
  pointwise [k0_pay50, k0_pay53, k0_pay54, k0_pay55, k0_pay56]

/-- The kernel's pair of neighbourhood key heads number 0. -/
theorem nk0 (q : FVec Ideal S256x512 .f32) (g : Vec Ideal S1x128 .f32) (r : Fin 256) (l : Fin 128) :
    k0_pay51 q g (ix2 r l) = na (fun d => q (ix2 r ⟨0 + d.val, by omega⟩)) (fun d => g (ix2 0 d)) l := by
  refine Eq.trans ?_ (na_eq _ _ l)
  pointwise [k0_pay50, k0_pay51]

end Cert.LatIdeal.At

end
-- ==== Proof.LatRef.lean ====
/- The reference's heads, entry by entry. -/
module

public import proofs.«01_k».proof.Defs
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import proofs.«01_k».proof.Proof.LatHeads
public import Idealize.ShloMosaic.Lib.Pipeline.ValueKit

@[expose] public section

set_option maxRecDepth 16384

noncomputable section

namespace Cert.LatIdeal.At

open Cert.LatIdeal Cert.LatIdeal.Gen Idealize.ShloMosaic Idealize.ShloMosaic.TcCoe Idealize.SL.Sem
open Idealize.ShloMosaic.Pipeline (Dat)
open Cert.LatRefIdeal.Read

variable (x0 : FVec Ideal Cert.LatRefIdeal.S16384x1024 .f32) (x1 : FVec Ideal Cert.LatRefIdeal.S1x1024 .f32) (x2 : FVec Ideal Cert.LatRefIdeal.S16x1x1024 .f32) (x3 : FVec Ideal Cert.LatRefIdeal.S16x1x1024 .f32) (x4 : FVec Ideal Cert.LatRefIdeal.S1024x2304 .bf16) (x5 : FVec Ideal Cert.LatRefIdeal.S1x384 .f32) (x6 : FVec Ideal Cert.LatRefIdeal.S384x1024 .bf16) (x7 : FVec Ideal Cert.LatRefIdeal.S1x256 .f32) (x8 : FVec Ideal Cert.LatRefIdeal.S256x1024 .bf16) (x9 : FVec Ideal Cert.LatRefIdeal.S256x512 .bf16) (x10 : FVec Ideal Cert.LatRefIdeal.S1x128 .f32) (x11 : FVec Ideal Cert.LatRefIdeal.S1x128 .f32) (x12 : FVec Ideal Cert.LatRefIdeal.S1x128 .f32) (x13 : FVec Ideal Cert.LatRefIdeal.S1x128 .f32) (x14 : FVec Ideal Cert.LatRefIdeal.S2048x128 .f32) (x15 : FVec Ideal Cert.LatRefIdeal.S2048x128 .f32)

set_option maxHeartbeats 1000000 in
/-- The reference's query heads. -/
theorem q_ref (b : Fin 8) (s : Fin 2048) (h : Fin 8) (l : Fin 128) :
    val_main_v75 (F := Ideal) x0 x1 x2 x3 x4 x5 x6 x10 x14 x15 (ix4 b s h l) = hr (fun d => val_main_v48 (F := Ideal) x0 x1 x2 x3 x4 x5 x6 (ix3 b s ⟨h.val * 128 + d.val, by omega⟩)) (fun d => x10 (ix2 0 d)) (fun d => x14 (ix2 s d)) (fun d => x15 (ix2 s d)) l := by
  by_cases hl : l.val < 64
  · have hr0 : rot l = ⟨64 + l.val, by omega⟩ := Fin.ext (by simp only [rot]; omega)
    rw [hr, hr0]
    pointwise [hn,
    val_main_v49, val_main_v50, val_main_v51, val_main_cst_6, val_main_v52, val_main_v53, val_main_cst_7, val_main_v54, val_main_v55, val_main_cst_8,
    val_main_v56, val_main_v57, val_main_v58, val_main_v59, val_main_v60, val_main_v61, val_main_v62, val_main_v63, val_main_v64, val_main_v65,
    val_main_v66, val_main_v67, val_main_v68, val_main_v69, val_main_v70, val_main_v71, val_main_v72, val_main_v73, val_main_v74, val_main_v75]
    rw [dif_pos hl]
  · have hr1 : rot l = ⟨l.val - 64, by omega⟩ := Fin.ext (by simp only [rot]; omega)
    rw [hr, hr1]
    pointwise [hn,
    val_main_v49, val_main_v50, val_main_v51, val_main_cst_6, val_main_v52, val_main_v53, val_main_cst_7, val_main_v54, val_main_v55, val_main_cst_8,
    val_main_v56, val_main_v57, val_main_v58, val_main_v59, val_main_v60, val_main_v61, val_main_v62, val_main_v63, val_main_v64, val_main_v65,
    val_main_v66, val_main_v67, val_main_v68, val_main_v69, val_main_v70, val_main_v71, val_main_v72, val_main_v73, val_main_v74, val_main_v75]
    rw [dif_neg hl]

set_option maxHeartbeats 1000000 in
/-- The reference's key heads. -/
theorem k_ref (b : Fin 8) (s : Fin 2048) (h : Fin 8) (l : Fin 128) :
    val_main_v121 (F := Ideal) x0 x1 x2 x3 x4 x7 x8 x11 x14 x15 (ix4 b s h l) = hr (fun d => val_main_v91 (F := Ideal) x0 x1 x2 x3 x4 x7 x8 (ix3 b s ⟨h.val * 128 + d.val, by omega⟩) + val_main_v31 (F := Ideal) x0 x1 x2 x3 x4 (ix3 b s d)) (fun d => x11 (ix2 0 d)) (fun d => x14 (ix2 s d)) (fun d => x15 (ix2 s d)) l := by
  by_cases hl : l.val < 64
  · have hr0 : rot l = ⟨64 + l.val, by omega⟩ := Fin.ext (by simp only [rot]; omega)
    rw [hr, hr0]
    pointwise [hn,
    val_main_v92, val_main_v93, val_main_v94, val_main_v95, val_main_v96, val_main_v97, val_main_cst_12, val_main_v98, val_main_v99, val_main_cst_13,
    val_main_v100, val_main_v101, val_main_cst_14, val_main_v102, val_main_v103, val_main_v104, val_main_v105, val_main_v106, val_main_v107,
    val_main_v108, val_main_v109, val_main_v110, val_main_v111, val_main_v112, val_main_v113, val_main_v114, val_main_v115, val_main_v116,
    val_main_v117, val_main_v118, val_main_v119, val_main_v120, val_main_v121]
    rw [dif_pos hl]
  · have hr1 : rot l = ⟨l.val - 64, by omega⟩ := Fin.ext (by simp only [rot]; omega)
    rw [hr, hr1]
    pointwise [hn,
    val_main_v92, val_main_v93, val_main_v94, val_main_v95, val_main_v96, val_main_v97, val_main_cst_12, val_main_v98, val_main_v99, val_main_cst_13,
    val_main_v100, val_main_v101, val_main_cst_14, val_main_v102, val_main_v103, val_main_v104, val_main_v105, val_main_v106, val_main_v107,
    val_main_v108, val_main_v109, val_main_v110, val_main_v111, val_main_v112, val_main_v113, val_main_v114, val_main_v115, val_main_v116,
    val_main_v117, val_main_v118, val_main_v119, val_main_v120, val_main_v121]
    rw [dif_neg hl]

set_option maxHeartbeats 1000000 in
/-- The reference's neighbourhood queries. -/
theorem nq_ref (b : Fin 8) (s : Fin 2048) (p : Fin 4) (e : Fin 2) (l : Fin 64) :
    val_main_v155 (F := Ideal) x0 x1 x2 x3 x4 x12 (ix5 b s p e l) = na (fun d => val_main_v32 (F := Ideal) x0 x1 x2 x3 x4 (ix3 b s ⟨0 + (p.val * 128 + d.val), by omega⟩)) (fun d => x12 (ix2 0 d)) ⟨e.val * 64 + l.val, by omega⟩ := by
  pointwise [na,
    val_main_v138, val_main_v139, val_main_v142, val_main_v143, val_main_cst_18, val_main_v144, val_main_v145, val_main_cst_19, val_main_v146,
    val_main_v147, val_main_cst_20, val_main_v148, val_main_v149, val_main_v150, val_main_v151, val_main_v152, val_main_v153, val_main_v154,
    val_main_v155]
  have he : (e.val * 64 + l.val) / 64 * 64 = e.val * 64 := by omega
  simp only [he, Nat.add_mul, Nat.add_assoc]

set_option maxHeartbeats 1000000 in
/-- The reference's neighbourhood keys. -/
theorem nk_ref (b : Fin 8) (s : Fin 2048) (p : Fin 4) (e : Fin 2) (l : Fin 64) :
    val_main_v169 (F := Ideal) x0 x1 x2 x3 x4 x13 (ix5 b s p e l) = na (fun d => val_main_v32 (F := Ideal) x0 x1 x2 x3 x4 (ix3 b s ⟨512 + (p.val * 128 + d.val), by omega⟩)) (fun d => x13 (ix2 0 d)) ⟨e.val * 64 + l.val, by omega⟩ := by
  pointwise [na,
    val_main_v138, val_main_v140, val_main_v156, val_main_v157, val_main_cst_21, val_main_v158, val_main_v159, val_main_cst_22, val_main_v160,
    val_main_v161, val_main_cst_23, val_main_v162, val_main_v163, val_main_v164, val_main_v165, val_main_v166, val_main_v167, val_main_v168,
    val_main_v169]
  have he : (e.val * 64 + l.val) / 64 * 64 = e.val * 64 := by omega
  simp only [he, Nat.add_mul, Nat.add_assoc]

set_option maxHeartbeats 1000000 in
/-- The queries returned are the heads side by side. -/
theorem q_out (b : Fin 8) (s : Fin 2048) (h : Fin 8) (l : Fin 128) :
    val_main_v171 (F := Ideal) x0 x1 x2 x3 x4 x5 x6 x10 x14 x15 (ix2 ⟨b.val * 2048 + s.val, by omega⟩ ⟨h.val * 128 + l.val, by omega⟩) = val_main_v75 (F := Ideal) x0 x1 x2 x3 x4 x5 x6 x10 x14 x15 (ix4 b s h l) := by
  pointwise [val_main_v171, val_main_v170]

set_option maxHeartbeats 1000000 in
/-- The keys returned are the heads side by side. -/
theorem k_out (b : Fin 8) (s : Fin 2048) (h : Fin 8) (l : Fin 128) :
    val_main_v173 (F := Ideal) x0 x1 x2 x3 x4 x7 x8 x11 x14 x15 (ix2 ⟨b.val * 2048 + s.val, by omega⟩ ⟨h.val * 128 + l.val, by omega⟩) = val_main_v121 (F := Ideal) x0 x1 x2 x3 x4 x7 x8 x11 x14 x15 (ix4 b s h l) := by
  pointwise [val_main_v173, val_main_v172]

set_option maxHeartbeats 1000000 in
/-- The values returned, row by row. -/
theorem v_out (b : Fin 8) (s : Fin 2048) (j : Fin 512) :
    val_main_v175 (F := Ideal) x0 x1 x2 x3 x4 x7 x9 (ix2 ⟨b.val * 2048 + s.val, by omega⟩ j) = val_main_v137 (F := Ideal) x0 x1 x2 x3 x4 x7 x9 (ix3 b s j) := by
  pointwise [val_main_v175, val_main_v174]

set_option maxHeartbeats 1000000 in
/-- The neighbourhood queries returned are the heads side by side. -/
theorem nq_out (b : Fin 8) (s : Fin 2048) (p : Fin 4) (e : Fin 2) (l : Fin 64) :
    val_main_v177 (F := Ideal) x0 x1 x2 x3 x4 x12 (ix2 ⟨b.val * 2048 + s.val, by omega⟩ ⟨p.val * 128 + (e.val * 64 + l.val), by omega⟩) = val_main_v155 (F := Ideal) x0 x1 x2 x3 x4 x12 (ix5 b s p e l) := by
  pointwise [val_main_v177, val_main_v176]

set_option maxHeartbeats 1000000 in
/-- The neighbourhood keys returned are the heads side by side. -/
theorem nk_out (b : Fin 8) (s : Fin 2048) (p : Fin 4) (e : Fin 2) (l : Fin 64) :
    val_main_v179 (F := Ideal) x0 x1 x2 x3 x4 x13 (ix2 ⟨b.val * 2048 + s.val, by omega⟩ ⟨p.val * 128 + (e.val * 64 + l.val), by omega⟩) = val_main_v169 (F := Ideal) x0 x1 x2 x3 x4 x13 (ix5 b s p e l) := by
  pointwise [val_main_v179, val_main_v178]

set_option maxHeartbeats 1000000 in
/-- The neighbourhood values returned, row by row. -/
theorem nv_out (b : Fin 8) (s : Fin 2048) (j : Fin 512) :
    val_main_v181 (F := Ideal) x0 x1 x2 x3 x4 (ix2 ⟨b.val * 2048 + s.val, by omega⟩ j) = val_main_v32 (F := Ideal) x0 x1 x2 x3 x4 (ix3 b s ⟨1024 + j.val, by omega⟩) := by
  pointwise [val_main_v181, val_main_v180, val_main_v141, val_main_v138]
  have hj : (8 + j.val / 128) * 128 + j.val / 64 % 2 * 64 + j.val % 64 = 1024 + j.val := by omega
  simp only [hj]

end Cert.LatIdeal.At

end
-- ==== Proof.LatValue.lean ====
/- The six arrays of the attention inputs after the run are the reference's. -/
module

public import proofs.«01_k».proof.Defs
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import proofs.«01_k».proof.Proof.LatBase
public import proofs.«01_k».proof.Proof.LatRef
public import Idealize.ShloMosaic.Lib.Pipeline.ValueKit

@[expose] public section

set_option maxRecDepth 16384

noncomputable section

namespace Cert.LatIdeal.At

open Cert.LatIdeal Cert.LatIdeal.Gen Idealize.ShloMosaic Idealize.ShloMosaic.TcCoe Idealize.SL.Sem
open Idealize.ShloMosaic.Pipeline (Dat)
open Cert.LatRefIdeal.Read

variable (m : (ℓ : Loc nD τ sig) → Buf (Elt Ideal) ℓ)

/-- An index of one head's block is a row and a lane. -/
theorem split_tile (x : S256x128.Idx) : ∃ (r : Fin 256) (l : Fin 128), x = ix2 r l :=
  ⟨x 0, x 1, by blk_ext⟩

/-- An index of a block of 512 lanes is a row and a lane. -/
theorem split_512 (x : S256x512.Idx) : ∃ (r : Fin 256) (l : Fin 512), x = ix2 r l :=
  ⟨x 0, x 1, by blk_ext⟩

/-- An index of a result of 1024 lanes, from its two numbers. -/
theorem at_1024 (b : Fin 8) (s : Fin 2048) (h : Fin 8) (l : Fin 128) (z : Cert.LatRefIdeal.S16384x1024.Idx)
    (h0 : (z 0 : ℕ) = b.val * 2048 + s.val) (h1 : (z 1 : ℕ) = h.val * 128 + l.val) :
    z = ix2 ⟨b.val * 2048 + s.val, by omega⟩ ⟨h.val * 128 + l.val, by omega⟩ := by
  blk_ext [h0, h1]

/-- An index of a result of 512 lanes, from its two numbers. -/
theorem at_512 (b : Fin 8) (s : Fin 2048) (j : Fin 512) (z : Cert.LatRefIdeal.S16384x512.Idx)
    (h0 : (z 0 : ℕ) = b.val * 2048 + s.val) (h1 : (z 1 : ℕ) = j.val) :
    z = ix2 ⟨b.val * 2048 + s.val, by omega⟩ j := by
  blk_ext [h0, h1]

/-- Heads of equal rows, weights and tables are equal. -/
theorem hr_ext {q q' g g' cs cs' sn sn' : Fin 128 → EReal} (l : Fin 128) (hq : ∀ d, q d = q' d) (hg : ∀ d, g d = g' d)
    (hc : ∀ d, cs d = cs' d) (hs : ∀ d, sn d = sn' d) : hr q g cs sn l = hr q' g' cs' sn' l := by
  rw [funext hq, funext hg, funext hc, funext hs]

/-- The row of a grid point's block, counted in the whole array. -/
theorem row (t : Fin cfg0.N) (r : Fin 256) : (bt t).val * 2048 + (ps t r).val = t.val * 256 + r.val := by
  simp only [bt, ps]; omega

/-- The reference's queries from the kernel's argument arrays. -/
abbrev REF16 (c : Dev nD) : FVec Ideal S16384x1024 .bf16 :=
  val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg14)) (m ((c : Thread nD τ).loc main_arg15))

/-- The reference's keys from the kernel's argument arrays. -/
abbrev REF17 (c : Dev nD) : FVec Ideal S16384x1024 .bf16 :=
  val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg14)) (m ((c : Thread nD τ).loc main_arg15))

/-- The reference's values from the kernel's argument arrays. -/
abbrev REF18 (c : Dev nD) : FVec Ideal S16384x512 .bf16 :=
  val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9))

/-- The reference's neighbourhood queries from the kernel's argument arrays. -/
abbrev REF19 (c : Dev nD) : FVec Ideal S16384x512 .bf16 :=
  val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg12))

/-- The reference's neighbourhood keys from the kernel's argument arrays. -/
abbrev REF20 (c : Dev nD) : FVec Ideal S16384x512 .bf16 :=
  val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))

/-- The reference's neighbourhood values from the kernel's argument arrays. -/
abbrev REF21 (c : Dev nD) : FVec Ideal S16384x512 .bf16 :=
  val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
/-- One head of the queries. -/
theorem tile16 (c : Dev nD) (t : Fin cfg0.N) (h : Fin 8) (r : Fin 256) (l : Fin 128) (z : S16384x1024.Idx)
    (h0 : (z 0 : ℕ) = t.val * 256 + r.val) (h1 : (z 1 : ℕ) = h.val * 128 + l.val) :
    hr (fun d => k0_pay83 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 128 + d.val, by omega⟩)) (fun d => (View.ld (Val := Elt Ideal) (S := S1x128) (e' := .f32) (iblk m c 10 t) r0_9) (ix2 0 d)) (fun d => (View.ld (Val := Elt Ideal) (S := S256x128) (e' := .f32) (iblk m c 14 t) r0_8) (ix2 r d)) (fun d => (View.ld (Val := Elt Ideal) (S := S256x128) (e' := .f32) (iblk m c 15 t) r0_8) (ix2 r d)) l = REF16 m c z := by
  have e : REF16 m c z = _ := congrArg (REF16 m c) (at_1024 (bt t) (ps t r) h l z (h0.trans (row t r).symm) h1)
  refine Eq.trans ?_ (e.trans ((q_out ..).trans (q_ref ..))).symm
  refine hr_ext l (fun d => ?_) (fun d => ?_) (fun d => ?_) (fun d => ?_)
  · exact q_eq m c t r _
  · blk_point [iblk, V, idx t]
  · blk_point [iblk, V, idx t, ps]
  · blk_point [iblk, V, idx t, ps]

set_option maxHeartbeats 1000000 in
/-- One head of the keys. -/
theorem tile17 (c : Dev nD) (t : Fin cfg0.N) (h : Fin 8) (r : Fin 256) (l : Fin 128) (z : S16384x1024.Idx)
    (h0 : (z 0 : ℕ) = t.val * 256 + r.val) (h1 : (z 1 : ℕ) = h.val * 128 + l.val) :
    hr (fun d => k0_pay82 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 128 + d.val, by omega⟩) + k0_pay77 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d)) (fun d => (View.ld (Val := Elt Ideal) (S := S1x128) (e' := .f32) (iblk m c 11 t) r0_9) (ix2 0 d)) (fun d => (View.ld (Val := Elt Ideal) (S := S256x128) (e' := .f32) (iblk m c 14 t) r0_8) (ix2 r d)) (fun d => (View.ld (Val := Elt Ideal) (S := S256x128) (e' := .f32) (iblk m c 15 t) r0_8) (ix2 r d)) l = REF17 m c z := by
  have e : REF17 m c z = _ := congrArg (REF17 m c) (at_1024 (bt t) (ps t r) h l z (h0.trans (row t r).symm) h1)
  refine Eq.trans ?_ (e.trans ((k_out ..).trans (k_ref ..))).symm
  refine hr_ext l (fun d => ?_) (fun d => ?_) (fun d => ?_) (fun d => ?_)
  · exact congrArg₂ (· + ·) (k_eq m c t r _) (kr_eq m c t r d)
  · blk_point [iblk, V, idx t]
  · blk_point [iblk, V, idx t, ps]
  · blk_point [iblk, V, idx t, ps]

set_option maxHeartbeats 1000000 in
/-- One pair of heads of the neighbourhood queries. -/
theorem tile19 (c : Dev nD) (t : Fin cfg0.N) (p : Fin 4) (r : Fin 256) (l : Fin 128) (z : S16384x512.Idx)
    (h0 : (z 0 : ℕ) = t.val * 256 + r.val) (h1 : (z 1 : ℕ) = p.val * 128 + l.val) :
    na (fun d => k0_pay78 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨p.val * 128 + d.val, by omega⟩)) (fun d => (View.ld (Val := Elt Ideal) (S := S1x128) (e' := .f32) (iblk m c 12 t) r0_9) (ix2 0 d)) l = REF19 m c z := by
  have hl : l.val / 64 * 64 + l.val % 64 = l.val := by omega
  have e : REF19 m c z = _ := congrArg (REF19 m c) (at_512 (bt t) (ps t r)
    ⟨p.val * 128 + ((⟨l.val / 64, by omega⟩ : Fin 2).val * 64 + (⟨l.val % 64, by omega⟩ : Fin 64).val), by simp only [hl]; omega⟩ z
    (h0.trans (row t r).symm) (by simp only [hl]; exact h1))
  refine Eq.trans ?_ (e.trans ((nq_out ..).trans (nq_ref ..))).symm
  congr 1
  · funext d; exact naq_eq m c t r _
  · funext d; blk_point [iblk, V, idx t]
  · exact Fin.ext hl.symm

set_option maxHeartbeats 1000000 in
/-- One pair of heads of the neighbourhood keys. -/
theorem tile20 (c : Dev nD) (t : Fin cfg0.N) (p : Fin 4) (r : Fin 256) (l : Fin 128) (z : S16384x512.Idx)
    (h0 : (z 0 : ℕ) = t.val * 256 + r.val) (h1 : (z 1 : ℕ) = p.val * 128 + l.val) :
    na (fun d => k0_pay79 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨p.val * 128 + d.val, by omega⟩)) (fun d => (View.ld (Val := Elt Ideal) (S := S1x128) (e' := .f32) (iblk m c 13 t) r0_9) (ix2 0 d)) l = REF20 m c z := by
  have hl : l.val / 64 * 64 + l.val % 64 = l.val := by omega
  have e : REF20 m c z = _ := congrArg (REF20 m c) (at_512 (bt t) (ps t r)
    ⟨p.val * 128 + ((⟨l.val / 64, by omega⟩ : Fin 2).val * 64 + (⟨l.val % 64, by omega⟩ : Fin 64).val), by simp only [hl]; omega⟩ z
    (h0.trans (row t r).symm) (by simp only [hl]; exact h1))
  refine Eq.trans ?_ (e.trans ((nk_out ..).trans (nk_ref ..))).symm
  congr 1
  · funext d; exact nak_eq m c t r _
  · funext d; blk_point [iblk, V, idx t]
  · exact Fin.ext hl.symm

/-- What a grid point leaves in the buffer of the queries is the reference's block. -/
theorem point16 (c : Dev nD) (t : Fin cfg0.N) (y : S256x1024.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF16 m c (((cfg0.win 16).blk t).view.emb y) := by
  canon_tiles x h
  all_goals
    obtain ⟨r, l, rfl⟩ := split_tile x
    have h0' : (y 0 : ℕ) = r.val := h0
  case piece0 =>
    have h1' : (y 1 : ℕ) = 896 + l.val := h1
    refine Eq.trans (qh7 ..) (tile16 m c t 7 r l _ ?_ ?_)
    all_goals blk_simp [idx t]
    · omega
    · omega
  case piece1 =>
    have h1' : (y 1 : ℕ) = 768 + l.val := h1
    refine Eq.trans (qh6 ..) (tile16 m c t 6 r l _ ?_ ?_)
    all_goals blk_simp [idx t]
    · omega
    · omega
  case piece2 =>
    have h1' : (y 1 : ℕ) = 640 + l.val := h1
    refine Eq.trans (qh5 ..) (tile16 m c t 5 r l _ ?_ ?_)
    all_goals blk_simp [idx t]
    · omega
    · omega
  case piece3 =>
    have h1' : (y 1 : ℕ) = 512 + l.val := h1
    refine Eq.trans (qh4 ..) (tile16 m c t 4 r l _ ?_ ?_)
    all_goals blk_simp [idx t]
    · omega
    · omega
  case piece4 =>
    have h1' : (y 1 : ℕ) = 384 + l.val := h1
    refine Eq.trans (qh3 ..) (tile16 m c t 3 r l _ ?_ ?_)
    all_goals blk_simp [idx t]
    · omega
    · omega
  case piece5 =>
    have h1' : (y 1 : ℕ) = 256 + l.val := h1
    refine Eq.trans (qh2 ..) (tile16 m c t 2 r l _ ?_ ?_)
    all_goals blk_simp [idx t]
    · omega
    · omega
  case piece6 =>
    have h1' : (y 1 : ℕ) = 128 + l.val := h1
    refine Eq.trans (qh1 ..) (tile16 m c t 1 r l _ ?_ ?_)
    all_goals blk_simp [idx t]
    · omega
    · omega
  case piece7 =>
    have h1' : (y 1 : ℕ) = 0 + l.val := h1.trans (by simp)
    refine Eq.trans (qh0 ..) (tile16 m c t 0 r l _ ?_ ?_)
    all_goals blk_simp [idx t]
    · omega
    · omega

/-- What a grid point leaves in the buffer of the keys is the reference's block. -/
theorem point17 (c : Dev nD) (t : Fin cfg0.N) (y : S256x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF17 m c (((cfg0.win 17).blk t).view.emb y) := by
  canon_tiles x h
  all_goals
    obtain ⟨r, l, rfl⟩ := split_tile x
    have h0' : (y 0 : ℕ) = r.val := h0
  case piece0 =>
    have h1' : (y 1 : ℕ) = 896 + l.val := h1
    refine Eq.trans (kh7 ..) (tile17 m c t 7 r l _ ?_ ?_)
    all_goals blk_simp [idx t]
    · omega
    · omega
  case piece1 =>
    have h1' : (y 1 : ℕ) = 768 + l.val := h1
    refine Eq.trans (kh6 ..) (tile17 m c t 6 r l _ ?_ ?_)
    all_goals blk_simp [idx t]
    · omega
    · omega
  case piece2 =>
    have h1' : (y 1 : ℕ) = 640 + l.val := h1
    refine Eq.trans (kh5 ..) (tile17 m c t 5 r l _ ?_ ?_)
    all_goals blk_simp [idx t]
    · omega
    · omega
  case piece3 =>
    have h1' : (y 1 : ℕ) = 512 + l.val := h1
    refine Eq.trans (kh4 ..) (tile17 m c t 4 r l _ ?_ ?_)
    all_goals blk_simp [idx t]
    · omega
    · omega
  case piece4 =>
    have h1' : (y 1 : ℕ) = 384 + l.val := h1
    refine Eq.trans (kh3 ..) (tile17 m c t 3 r l _ ?_ ?_)
    all_goals blk_simp [idx t]
    · omega
    · omega
  case piece5 =>
    have h1' : (y 1 : ℕ) = 256 + l.val := h1
    refine Eq.trans (kh2 ..) (tile17 m c t 2 r l _ ?_ ?_)
    all_goals blk_simp [idx t]
    · omega
    · omega
  case piece6 =>
    have h1' : (y 1 : ℕ) = 128 + l.val := h1
    refine Eq.trans (kh1 ..) (tile17 m c t 1 r l _ ?_ ?_)
    all_goals blk_simp [idx t]
    · omega
    · omega
  case piece7 =>
    have h1' : (y 1 : ℕ) = 0 + l.val := h1.trans (by simp)
    refine Eq.trans (kh0 ..) (tile17 m c t 0 r l _ ?_ ?_)
    all_goals blk_simp [idx t]
    · omega
    · omega

/-- What a grid point leaves in the buffer of the neighbourhood queries is the reference's block. -/
theorem point19 (c : Dev nD) (t : Fin cfg0.N) (y : S256x512.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF19 m c (((cfg0.win 19).blk t).view.emb y) := by
  canon_tiles x h
  all_goals
    obtain ⟨r, l, rfl⟩ := split_tile x
    have h0' : (y 0 : ℕ) = r.val := h0
  case piece0 =>
    have h1' : (y 1 : ℕ) = 384 + l.val := h1
    refine Eq.trans (nq3 ..) (tile19 m c t 3 r l _ ?_ ?_)
    all_goals blk_simp [idx t]
    · omega
    · omega
  case piece1 =>
    have h1' : (y 1 : ℕ) = 256 + l.val := h1
    refine Eq.trans (nq2 ..) (tile19 m c t 2 r l _ ?_ ?_)
    all_goals blk_simp [idx t]
    · omega
    · omega
  case piece2 =>
    have h1' : (y 1 : ℕ) = 128 + l.val := h1
    refine Eq.trans (nq1 ..) (tile19 m c t 1 r l _ ?_ ?_)
    all_goals blk_simp [idx t]
    · omega
    · omega
  case piece3 =>
    have h1' : (y 1 : ℕ) = 0 + l.val := h1.trans (by simp)
    refine Eq.trans (nq0 ..) (tile19 m c t 0 r l _ ?_ ?_)
    all_goals blk_simp [idx t]
    · omega
    · omega

/-- What a grid point leaves in the buffer of the neighbourhood keys is the reference's block. -/
theorem point20 (c : Dev nD) (t : Fin cfg0.N) (y : S256x512.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF20 m c (((cfg0.win 20).blk t).view.emb y) := by
  canon_tiles x h
  all_goals
    obtain ⟨r, l, rfl⟩ := split_tile x
    have h0' : (y 0 : ℕ) = r.val := h0
  case piece0 =>
    have h1' : (y 1 : ℕ) = 384 + l.val := h1
    refine Eq.trans (nk3 ..) (tile20 m c t 3 r l _ ?_ ?_)
    all_goals blk_simp [idx t]
    · omega
    · omega
  case piece1 =>
    have h1' : (y 1 : ℕ) = 256 + l.val := h1
    refine Eq.trans (nk2 ..) (tile20 m c t 2 r l _ ?_ ?_)
    all_goals blk_simp [idx t]
    · omega
    · omega
  case piece2 =>
    have h1' : (y 1 : ℕ) = 128 + l.val := h1
    refine Eq.trans (nk1 ..) (tile20 m c t 1 r l _ ?_ ?_)
    all_goals blk_simp [idx t]
    · omega
    · omega
  case piece3 =>
    have h1' : (y 1 : ℕ) = 0 + l.val := h1.trans (by simp)
    refine Eq.trans (nk0 ..) (tile20 m c t 0 r l _ ?_ ?_)
    all_goals blk_simp [idx t]
    · omega
    · omega

/-- What a grid point leaves in the buffer of the values is the reference's block. -/
theorem point18 (c : Dev nD) (t : Fin cfg0.N) (y : S256x512.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF18 m c (((cfg0.win 18).blk t).view.emb y) := by
  canon_tiles x h
  obtain ⟨r, j, rfl⟩ := split_512 x
  have h0' : (y 0 : ℕ) = r.val := h0
  have h1' : (y 1 : ℕ) = j.val := h1
  refine Eq.trans (Eq.trans ?_ (v_out ..).symm) (congrArg (REF18 m c) (at_512 (bt t) (ps t r) j _ ?_ ?_)).symm
  · exact v_eq m c t r j
  · rw [row]; blk_simp [idx t]; omega
  · blk_simp [idx t]; omega

/-- What a grid point leaves in the buffer of the neighbourhood values is the reference's block. -/
theorem point21 (c : Dev nD) (t : Fin cfg0.N) (y : S256x512.Idx) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF21 m c (((cfg0.win 21).blk t).view.emb y) := by
  canon_tiles x h
  obtain ⟨r, j, rfl⟩ := split_512 x
  have h0' : (y 0 : ℕ) = r.val := h0
  have h1' : (y 1 : ℕ) = j.val := h1
  refine Eq.trans (Eq.trans ?_ (nv_out ..).symm) (congrArg (REF21 m c) (at_512 (bt t) (ps t r) j _ ?_ ?_)).symm
  · pointwise [k0_pay2]
    exact nav_eq m c t r j
  · rw [row]; blk_simp [idx t]; omega
  · blk_simp [idx t]; omega

/-- The array of the queries after the run. -/
theorem final16 (c : Dev nD) : (dats m 0 c).arrAt 16 (cfgs 0).N = REF16 m c := by
  refine (dats m 0 c).arrAt_eq_of_covers 16 _ (by decide +kernel) fun t hf y => ?_
  blk_simp
  rw [after0_16]
  exact point16 m c t y

/-- The array of the keys after the run. -/
theorem final17 (c : Dev nD) : (dats m 0 c).arrAt 17 (cfgs 0).N = REF17 m c := by
  refine (dats m 0 c).arrAt_eq_of_covers 17 _ (by decide +kernel) fun t hf y => ?_
  blk_simp
  rw [after0_17]
  exact point17 m c t y

/-- The array of the values after the run. -/
theorem final18 (c : Dev nD) : (dats m 0 c).arrAt 18 (cfgs 0).N = REF18 m c := by
  refine (dats m 0 c).arrAt_eq_of_covers 18 _ (by decide +kernel) fun t hf y => ?_
  blk_simp
  rw [after0_18]
  exact point18 m c t y

/-- The array of the neighbourhood queries after the run. -/
theorem final19 (c : Dev nD) : (dats m 0 c).arrAt 19 (cfgs 0).N = REF19 m c := by
  refine (dats m 0 c).arrAt_eq_of_covers 19 _ (by decide +kernel) fun t hf y => ?_
  blk_simp
  rw [after0_19]
  exact point19 m c t y

/-- The array of the neighbourhood keys after the run. -/
theorem final20 (c : Dev nD) : (dats m 0 c).arrAt 20 (cfgs 0).N = REF20 m c := by
  refine (dats m 0 c).arrAt_eq_of_covers 20 _ (by decide +kernel) fun t hf y => ?_
  blk_simp
  rw [after0_20]
  exact point20 m c t y

/-- The array of the neighbourhood values after the run. -/
theorem final21 (c : Dev nD) : (dats m 0 c).arrAt 21 (cfgs 0).N = REF21 m c := by
  refine (dats m 0 c).arrAt_eq_of_covers 21 _ (by decide +kernel) fun t hf y => ?_
  blk_simp
  rw [after0_21]
  exact point21 m c t y

end Cert.LatIdeal.At

end
-- ==== Proof.LatClaim.lean ====
/- The claims about the attention inputs. -/
module

public import proofs.«01_k».proof.Defs
public import proofs.«01_k».proof.Proof.Gen.LatIdeal.Frame
public import proofs.«01_k».proof.Proof.Gen.LatIdeal.Value
public import proofs.«01_k».proof.Proof.Gen.LatRefIdeal.Run
public import proofs.«01_k».proof.Proof.Gen.LatRefIdeal.Read
public import proofs.«01_k».proof.Proof.LatValue
public import Idealize.ShloMosaic.Lib.Pipeline.ValueKit

@[expose] public section

set_option maxRecDepth 16384

noncomputable section

namespace Cert.LatIdeal.At

open Cert.LatIdeal Cert.LatIdeal.Gen Idealize.ShloMosaic Idealize.ShloMosaic.TcCoe Idealize.SL.Sem
open Idealize.ShloMosaic.Pipeline (Dat)
open Cert.LatRefIdeal.Read

set_option maxHeartbeats 2000000 in
/-- The reference's run ends with its six stages and keeps its arguments. -/
theorem ref_run (m' : (ℓ : Loc Cert.LatRefIdeal.nD Cert.LatRefIdeal.τ Cert.LatRefIdeal.sig) → Buf (Elt Ideal) ℓ) (g' : Dev Cert.LatRefIdeal.nD → PrngReg) :
    θ_run (Cert.LatRefIdeal.defs (F := Ideal)) (onTc (τ := Cert.LatRefIdeal.τ) (Cert.LatRefIdeal.main (F := Ideal))) ⟨m', fun _ => 0, g'⟩ fun r => ∀ c : Dev Cert.LatRefIdeal.nD,
      r.2.mem ((c.tc : Thread Cert.LatRefIdeal.nD Cert.LatRefIdeal.τ).loc Cert.LatRefIdeal.main_v171) = val_main_v171 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg5)) (m' ((c.tc : Thread Cert.LatRefIdeal.nD Cert.LatRefIdeal.τ).loc Cert.LatRefIdeal.main_arg6)) (m' ((c.tc : Thread Cert.LatRefIdeal.nD Cert.LatRefIdeal.τ).loc Cert.LatRefIdeal.main_arg10)) (m' ((c.tc : Thread Cert.LatRefIdeal.nD Cert.LatRefIdeal.τ).loc Cert.LatRefIdeal.main_arg14)) (m' ((c.tc : Thread Cert.LatRefIdeal.nD Cert.LatRefIdeal.τ).loc Cert.LatRefIdeal.main_arg15))
      ∧ r.2.mem ((c.tc : Thread Cert.LatRefIdeal.nD Cert.LatRefIdeal.τ).loc Cert.LatRefIdeal.main_v173) = val_main_v173 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg7)) (m' ((c.tc : Thread Cert.LatRefIdeal.nD Cert.LatRefIdeal.τ).loc Cert.LatRefIdeal.main_arg8)) (m' ((c.tc : Thread Cert.LatRefIdeal.nD Cert.LatRefIdeal.τ).loc Cert.LatRefIdeal.main_arg11)) (m' ((c.tc : Thread Cert.LatRefIdeal.nD Cert.LatRefIdeal.τ).loc Cert.LatRefIdeal.main_arg14)) (m' ((c.tc : Thread Cert.LatRefIdeal.nD Cert.LatRefIdeal.τ).loc Cert.LatRefIdeal.main_arg15))
      ∧ r.2.mem ((c.tc : Thread Cert.LatRefIdeal.nD Cert.LatRefIdeal.τ).loc Cert.LatRefIdeal.main_v175) = val_main_v175 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg7)) (m' ((c.tc : Thread Cert.LatRefIdeal.nD Cert.LatRefIdeal.τ).loc Cert.LatRefIdeal.main_arg9))
      ∧ r.2.mem ((c.tc : Thread Cert.LatRefIdeal.nD Cert.LatRefIdeal.τ).loc Cert.LatRefIdeal.main_v177) = val_main_v177 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg12))
      ∧ r.2.mem ((c.tc : Thread Cert.LatRefIdeal.nD Cert.LatRefIdeal.τ).loc Cert.LatRefIdeal.main_v179) = val_main_v179 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg13))
      ∧ r.2.mem ((c.tc : Thread Cert.LatRefIdeal.nD Cert.LatRefIdeal.τ).loc Cert.LatRefIdeal.main_v181) = val_main_v181 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4))
      ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m' ((c.tc : Thread Cert.LatRefIdeal.nD Cert.LatRefIdeal.τ).loc Cert.LatRefIdeal.main_arg10)
      ∧ r.2.mem ((c.tc : Thread Cert.LatRefIdeal.nD Cert.LatRefIdeal.τ).loc Cert.LatRefIdeal.main_arg11) = m' ((c.tc : Thread Cert.LatRefIdeal.nD Cert.LatRefIdeal.τ).loc Cert.LatRefIdeal.main_arg11)
      ∧ r.2.mem ((c.tc : Thread Cert.LatRefIdeal.nD Cert.LatRefIdeal.τ).loc Cert.LatRefIdeal.main_arg12) = m' ((c.tc : Thread Cert.LatRefIdeal.nD Cert.LatRefIdeal.τ).loc Cert.LatRefIdeal.main_arg12)
      ∧ r.2.mem ((c.tc : Thread Cert.LatRefIdeal.nD Cert.LatRefIdeal.τ).loc Cert.LatRefIdeal.main_arg13) = m' ((c.tc : Thread Cert.LatRefIdeal.nD Cert.LatRefIdeal.τ).loc Cert.LatRefIdeal.main_arg13)
      ∧ r.2.mem ((c.tc : Thread Cert.LatRefIdeal.nD Cert.LatRefIdeal.τ).loc Cert.LatRefIdeal.main_arg14) = m' ((c.tc : Thread Cert.LatRefIdeal.nD Cert.LatRefIdeal.τ).loc Cert.LatRefIdeal.main_arg14)
      ∧ r.2.mem ((c.tc : Thread Cert.LatRefIdeal.nD Cert.LatRefIdeal.τ).loc Cert.LatRefIdeal.main_arg15) = m' ((c.tc : Thread Cert.LatRefIdeal.nD Cert.LatRefIdeal.τ).loc Cert.LatRefIdeal.main_arg15) :=
  (θ_run (Cert.LatRefIdeal.defs (F := Ideal)) _ _).mono (fun _ h c =>
    ⟨(h c).1.trans (Cert.LatRefIdeal.Read.val_main_v171_eq _), (h c).2.1.trans (Cert.LatRefIdeal.Read.val_main_v173_eq _), (h c).2.2.1.trans (Cert.LatRefIdeal.Read.val_main_v175_eq _), (h c).2.2.2.1.trans (Cert.LatRefIdeal.Read.val_main_v177_eq _), (h c).2.2.2.2.1.trans (Cert.LatRefIdeal.Read.val_main_v179_eq _), (h c).2.2.2.2.2.1.trans (Cert.LatRefIdeal.Read.val_main_v181_eq _), (h c).2.2.2.2.2.2⟩)
    (Cert.LatRefIdeal.Value.run (F := Ideal) m' g')

set_option maxHeartbeats 2000000 in
/-- Kernel and reference end with the same six results. -/
theorem algebraic : Cert.algebraic_LatIdeal_LatRefIdeal := by
  intro m g m' g' hpre hagree
  refine ⟨REF16 m, REF17 m, REF18 m, REF19 m, REF20 m, REF21 m, ?_, ?_⟩
  · run_from Cert.LatIdeal.Gen.run_main m g
    · exact (hc.1 16).trans (final16 m c)
    · exact (hc.1 17).trans (final17 m c)
    · exact (hc.1 18).trans (final18 m c)
    · exact (hc.1 19).trans (final19 m c)
    · exact (hc.1 20).trans (final20 m c)
    · exact (hc.1 21).trans (final21 m c)
  · refine Idealize.ShloMosaic.θ_run_mono (ref_run m' g') ?_
    intro r hr c
    obtain ⟨e0, e1, e2, e3, e4, e5, e6, e7, e8, e9, e10, e11, e12, e13, e14, e15⟩ := hagree c
    obtain ⟨h0, h1, h2, h3, h4, h5, hargs⟩ := hr c
    have q0 : val_main_v171 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg5)) (m' ((c.tc : Thread Cert.LatRefIdeal.nD Cert.LatRefIdeal.τ).loc Cert.LatRefIdeal.main_arg6)) (m' ((c.tc : Thread Cert.LatRefIdeal.nD Cert.LatRefIdeal.τ).loc Cert.LatRefIdeal.main_arg10)) (m' ((c.tc : Thread Cert.LatRefIdeal.nD Cert.LatRefIdeal.τ).loc Cert.LatRefIdeal.main_arg14)) (m' ((c.tc : Thread Cert.LatRefIdeal.nD Cert.LatRefIdeal.τ).loc Cert.LatRefIdeal.main_arg15)) = REF16 m c := by rw [e0, e1, e2, e3, e4, e5, e6, e10, e14, e15]
    have q1 : val_main_v173 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg7)) (m' ((c.tc : Thread Cert.LatRefIdeal.nD Cert.LatRefIdeal.τ).loc Cert.LatRefIdeal.main_arg8)) (m' ((c.tc : Thread Cert.LatRefIdeal.nD Cert.LatRefIdeal.τ).loc Cert.LatRefIdeal.main_arg11)) (m' ((c.tc : Thread Cert.LatRefIdeal.nD Cert.LatRefIdeal.τ).loc Cert.LatRefIdeal.main_arg14)) (m' ((c.tc : Thread Cert.LatRefIdeal.nD Cert.LatRefIdeal.τ).loc Cert.LatRefIdeal.main_arg15)) = REF17 m c := by rw [e0, e1, e2, e3, e4, e7, e8, e11, e14, e15]
    have q2 : val_main_v175 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg7)) (m' ((c.tc : Thread Cert.LatRefIdeal.nD Cert.LatRefIdeal.τ).loc Cert.LatRefIdeal.main_arg9)) = REF18 m c := by rw [e0, e1, e2, e3, e4, e7, e9]
    have q3 : val_main_v177 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg12)) = REF19 m c := by rw [e0, e1, e2, e3, e4, e12]
    have q4 : val_main_v179 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) (m' ((c.tc : Thread Cert.LatRefIdeal.nD Cert.LatRefIdeal.τ).loc Cert.LatRefIdeal.main_arg13)) = REF20 m c := by rw [e0, e1, e2, e3, e4, e13]
    have q5 : val_main_v181 (F := Ideal) (m' ((c.tc : Thread Cert.LatRefIdeal.nD Cert.LatRefIdeal.τ).loc Cert.LatRefIdeal.main_arg0)) (m' ((c.tc : Thread Cert.LatRefIdeal.nD Cert.LatRefIdeal.τ).loc Cert.LatRefIdeal.main_arg1)) (m' ((c.tc : Thread Cert.LatRefIdeal.nD Cert.LatRefIdeal.τ).loc Cert.LatRefIdeal.main_arg2)) (m' ((c.tc : Thread Cert.LatRefIdeal.nD Cert.LatRefIdeal.τ).loc Cert.LatRefIdeal.main_arg3)) (m' ((c.tc : Thread Cert.LatRefIdeal.nD Cert.LatRefIdeal.τ).loc Cert.LatRefIdeal.main_arg4)) = REF21 m c := by rw [e0, e1, e2, e3, e4]
    exact ⟨h0.trans q0, h1.trans q1, h2.trans q2, h3.trans q3, h4.trans q4, h5.trans q5, hargs⟩

/-- The reference's frame: its run keeps the arguments and it declares no semaphore. -/
theorem frame_ref : Cert.quiescent_LatRefIdeal := fun m g _ =>
  (θ_run (Cert.LatRefIdeal.defs (F := Ideal)) _ _).mono (fun r h => ⟨fun c => (h c).2.2.2.2.2.2, sem_eq_zero_of_no_sems (by decide) r.2⟩)
    (Cert.LatRefIdeal.Value.run (F := Ideal) m g)

/-- The constant named is the rounding of the reciprocal of 96. -/
theorem preserves : Cert.preserves_Lat_LatIdeal :=
  IdealRules.named_const.statement Cert.LatIdeal.κ "r96" .f32 0x3C2AAAAB#32 ((96⁻¹ : ℝ) : EReal) rfl

end Cert.LatIdeal.At

end
-- ==== Proof.CtxBase.lean ====
/- The context's joint projection and the products of its keys and values, block by block. -/
module

public import proofs.«01_k».proof.Defs
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.LatBase
public import Idealize.ShloMosaic.Lib.Pipeline.ValueKit

@[expose] public section

set_option maxRecDepth 16384

noncomputable section

namespace Cert.CtxIdeal.At

open Cert.CtxIdeal Cert.CtxIdeal.Gen Idealize.ShloMosaic Idealize.ShloMosaic.TcCoe Idealize.SL.Sem
open Idealize.ShloMosaic.Pipeline (Dat)
open Cert.CtxRefIdeal.Read

open Cert.LatIdeal.At (ext2)

variable (m : (ℓ : Loc nD τ sig) → Buf (Elt Ideal) ℓ)

/-- Which block of each array a grid point reads and writes. -/
theorem idx : ∀ t : Fin cfg0.N, win0_0.index t = ![t.val, 0] ∧ win0_1.index t = ![0, 0] ∧ win0_2.index t = ![8, 0, 0] ∧ win0_3.index t = ![8, 0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0] ∧ win0_17.index t = ![t.val, 0] ∧ win0_18.index t = ![t.val, 0] ∧ win0_19.index t = ![t.val, 0] :=
  (by decide +kernel : ∀ t : Fin grid0.N, _)

/-- The batch a grid point works on. -/
def bt (t : Fin cfg0.N) : Fin 8 := ⟨t.val, lt_of_lt_of_eq t.isLt N_0⟩

/-- The reference's projection of the modulated rows by the joint input weights. -/
abbrev Z (c : Dev nD) : FVec Ideal Cert.CtxRefIdeal.S8x256x2304 .f32 := val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
/-- The kernel's projection of a block's modulated rows is the reference's. -/
theorem z_eq (c : Dev nD) (t : Fin cfg0.N) (r : Fin 256) (j j' : Fin 2304) (h : j.val = j'.val) :
    k0_pay3 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = Z m c (ix3 (bt t) r j') := by
  obtain rfl := Fin.ext h
  have ht : t.val < 8 := lt_of_lt_of_eq t.isLt N_0
  pointwise [k0_pay3, bt,
    val_main_v0, val_main_v1, val_main_v2, val_main_cst, val_main_v3, val_main_v4, val_main_cst_0, val_main_v5, val_main_v6, val_main_cst_1,
    val_main_v7, val_main_v8, val_main_v9, val_main_v10, val_main_v11, val_main_v12, val_main_v13, val_main_v14, val_main_v15, val_main_v16,
    val_main_v17, val_main_v18, val_main_v19, val_main_cst_2, val_main_v20, val_main_v21, val_main_v22, val_main_v23, val_main_v24, val_main_v25,
    val_main_v26, val_main_v27, val_main_v28]
  blk_point [iblk, V, idx t]

/-- The keys' and values' latent rows are the reference's. -/
theorem ckv_eq (c : Dev nD) (t : Fin cfg0.N) (r : Fin 256) (j : Fin 256) :
    k0_pay4 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) r j) := by
  pointwise [k0_pay4, val_main_v30]
  exact z_eq m c t r _ _ (by simp only <;> omega)

/-- The key lanes shared by the heads are the reference's. -/
theorem kr_eq (c : Dev nD) (t : Fin cfg0.N) (r : Fin 256) (j : Fin 128) :
    k0_pay5 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) r j) := by
  pointwise [k0_pay5, val_main_v31]
  exact z_eq m c t r _ _ (by simp only <;> omega)

/-- The neighbourhood keys before their norms are the reference's. -/
theorem nak_eq (c : Dev nD) (t : Fin cfg0.N) (r : Fin 256) (j : Fin 512) :
    k0_pay6 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) r ⟨512 + j.val, by omega⟩) := by
  pointwise [k0_pay6, val_main_v32]
  exact z_eq m c t r _ _ (by simp only <;> omega)

/-- The neighbourhood values are the reference's. -/
theorem nav_eq (c : Dev nD) (t : Fin cfg0.N) (r : Fin 256) (j : Fin 512) :
    k0_pay7 (View.ld (Val := Elt Ideal) (S := S256x1024) (e' := .f32) (iblk m c 0 t) r0_0) (View.ld (Val := Elt Ideal) (S := S1x1024) (e' := .f32) (iblk m c 1 t) r0_1) (View.ld (Val := Elt Ideal) (S := S1x1x1024) (e' := .f32) (iblk m c 2 t) r0_2) (View.ld (Val := Elt Ideal) (S := S1x1x1024) (e' := .f32) (iblk m c 3 t) r0_2) (View.ld (Val := Elt Ideal) (S := S1024x2304) (e' := .bf16) (iblk m c 4 t) r0_3) (ix2 r j) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (bt t) r ⟨1024 + j.val, by omega⟩) := by
  pointwise [k0_pay7, val_main_v32]
  exact z_eq m c t r _ _ (by simp only <;> omega)

set_option maxHeartbeats 1000000 in
/-- The kernel's keys before the shared lanes and the norms are the reference's. -/
theorem k_eq (c : Dev nD) (t : Fin cfg0.N) (r : Fin 256) (j : Fin 1024) :
    k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r j) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix3 (bt t) r j) := by
  unfold k0_pay39 k0_pay38 k0_pay35 k0_pay8
  rw [ext2 _ _ (ckv_eq m c t)]
  pointwise [k0_pay10, k0_pay9,
    val_main_v33, val_main_v34, val_main_cst_3, val_main_v35, val_main_v36, val_main_cst_4, val_main_v37, val_main_v38, val_main_cst_5, val_main_v39,
    val_main_v40, val_main_v41, val_main_v42, val_main_v43, val_main_v44, val_main_v45, val_main_v46, val_main_v47, val_main_v48]
  blk_point [iblk, V, idx t]

set_option maxHeartbeats 1000000 in
/-- The kernel's values are the reference's. -/
theorem v_eq (c : Dev nD) (t : Fin cfg0.N) (r : Fin 256) (j : Fin 512) :
    k0_pay11 (k0_pay35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (Val := Elt Ideal) (S := S1x256) (e' := .f32) (iblk m c 7 t) r0_4) (k0_pay38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (Scalar.ofBits .f32 0x358637BD#32) (View.ld (Val := Elt Ideal) (S := S256x512) (e' := .bf16) (iblk m c 9 t) r0_5) (ix2 r j) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9)) (ix3 (bt t) r j) := by
  unfold k0_pay38 k0_pay35 k0_pay8
  rw [ext2 _ _ (ckv_eq m c t)]
  pointwise [k0_pay11, k0_pay9,
    val_main_v67, val_main_v68, val_main_cst_9, val_main_v69, val_main_v70, val_main_cst_10, val_main_v71, val_main_v72, val_main_cst_11,
    val_main_v73, val_main_v74, val_main_v75, val_main_v76, val_main_v77, val_main_v78, val_main_v79, val_main_v80, val_main_v81, val_main_v82]
  blk_point [iblk, V, idx t]

end Cert.CtxIdeal.At

end
-- ==== Proof.CtxHeads.lean ====
/- Each context head's norm, from the kernel's values. -/
module

public import proofs.«01_k».proof.Defs
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.LatHeads
public import Idealize.ShloMosaic.Lib.Pipeline.ValueKit

@[expose] public section

set_option maxRecDepth 16384

noncomputable section

namespace Cert.CtxIdeal.At

open Cert.CtxIdeal Cert.CtxIdeal.Gen Idealize.ShloMosaic Idealize.ShloMosaic.TcCoe Idealize.SL.Sem
open Idealize.ShloMosaic.Pipeline (Dat)
open Cert.CtxRefIdeal.Read

open Cert.LatIdeal.At (hn na na_eq mean64)

/-- Times the named reciprocal is over 96. -/
theorem mean96 (s : EReal) : s * (Named.named (F := Ideal) (φ := .f32) Cert.CtxIdeal.κ "r96" 1009429163#32 : EReal) = Ideal.div s (Ideal.ofBits .f32 0x42C00000#32) :=
  (congrArg (s * ·) ((IdealRules.named_const.ideal_named_scalar Cert.CtxIdeal.κ _ _ _ rfl).trans
    (IdealRules.named_const.ideal_named_scalar Cert.LatIdeal.κ _ _ _ rfl).symm)).trans (Cert.LatIdeal.At.mean96 s)

/-- The kernel's key head number 7. -/
theorem kh7 (q : FVec Ideal S256x1024 .f32) (kr : FVec Ideal S256x128 .f32) (g : Vec Ideal S1x128 .f32) (r : Fin 256) (l : Fin 128) :
    k0_pay23 kr q g (ix2 r l) = hn (fun d => q (ix2 r ⟨896 + d.val, by omega⟩) + kr (ix2 r d)) (fun d => g (ix2 0 d)) l := by
  pointwise [k0_pay23]
  simp only [mean96]
  rfl

/-- The kernel's key head number 6. -/
theorem kh6 (q : FVec Ideal S256x1024 .f32) (kr : FVec Ideal S256x128 .f32) (g : Vec Ideal S1x128 .f32) (r : Fin 256) (l : Fin 128) :
    k0_pay22 kr q g (ix2 r l) = hn (fun d => q (ix2 r ⟨768 + d.val, by omega⟩) + kr (ix2 r d)) (fun d => g (ix2 0 d)) l := by
  pointwise [k0_pay22]
  simp only [mean96]
  rfl

/-- The kernel's key head number 5. -/
theorem kh5 (q : FVec Ideal S256x1024 .f32) (kr : FVec Ideal S256x128 .f32) (g : Vec Ideal S1x128 .f32) (r : Fin 256) (l : Fin 128) :
    k0_pay21 kr q g (ix2 r l) = hn (fun d => q (ix2 r ⟨640 + d.val, by omega⟩) + kr (ix2 r d)) (fun d => g (ix2 0 d)) l := by
  pointwise [k0_pay21]
  simp only [mean96]
  rfl

/-- The kernel's key head number 4. -/
theorem kh4 (q : FVec Ideal S256x1024 .f32) (kr : FVec Ideal S256x128 .f32) (g : Vec Ideal S1x128 .f32) (r : Fin 256) (l : Fin 128) :
    k0_pay20 g (k0_pay18 kr q) (k0_pay19 kr q) (ix2 r l) = hn (fun d => q (ix2 r ⟨512 + d.val, by omega⟩) + kr (ix2 r d)) (fun d => g (ix2 0 d)) l := by
  pointwise [k0_pay18, k0_pay19, k0_pay20]
  simp only [mean96]
  rfl

/-- The kernel's key head number 3. -/
theorem kh3 (q : FVec Ideal S256x1024 .f32) (kr : FVec Ideal S256x128 .f32) (g : Vec Ideal S1x128 .f32) (r : Fin 256) (l : Fin 128) :
    k0_pay17 kr q g (ix2 r l) = hn (fun d => q (ix2 r ⟨384 + d.val, by omega⟩) + kr (ix2 r d)) (fun d => g (ix2 0 d)) l := by
  pointwise [k0_pay17]
  simp only [mean96]
  rfl

/-- The kernel's key head number 2. -/
theorem kh2 (q : FVec Ideal S256x1024 .f32) (kr : FVec Ideal S256x128 .f32) (g : Vec Ideal S1x128 .f32) (r : Fin 256) (l : Fin 128) :
    k0_pay16 kr q g (ix2 r l) = hn (fun d => q (ix2 r ⟨256 + d.val, by omega⟩) + kr (ix2 r d)) (fun d => g (ix2 0 d)) l := by
  pointwise [k0_pay16]
  simp only [mean96]
  rfl

/-- The kernel's key head number 1. -/
theorem kh1 (v27 : FVec Ideal S256x256 .f32) (v31 : Vec Ideal S1x256 .f32) (v36 : FVec Ideal S256x1 .f32) (e : Ideal .f32) (w : Vec Ideal S256x1024 .bf16) (kr : FVec Ideal S256x128 .f32) (g : Vec Ideal S1x128 .f32) (r : Fin 256) (l : Fin 128) :
    k0_pay15 g (k0_pay13 v27 kr v31 v36 e w) (k0_pay14 v27 kr v31 v36 e w) (ix2 r l) = hn (fun d => k0_pay10 v27 v31 v36 e w (ix2 r ⟨128 + d.val, by omega⟩) + kr (ix2 r d)) (fun d => g (ix2 0 d)) l := by
  pointwise [k0_pay13, k0_pay14, k0_pay15]
  simp only [mean96]
  rfl

/-- The kernel's key head number 0. -/
theorem kh0 (v27 : FVec Ideal S256x256 .f32) (v31 : Vec Ideal S1x256 .f32) (v36 : FVec Ideal S256x1 .f32) (e : Ideal .f32) (w : Vec Ideal S256x1024 .bf16) (kr : FVec Ideal S256x128 .f32) (g : Vec Ideal S1x128 .f32) (r : Fin 256) (l : Fin 128) :
    k0_pay12 v27 kr v31 v36 e w g (ix2 r l) = hn (fun d => k0_pay10 v27 v31 v36 e w (ix2 r ⟨0 + d.val, by omega⟩) + kr (ix2 r d)) (fun d => g (ix2 0 d)) l := by
  pointwise [k0_pay12]
  simp only [mean96]
  rfl

/-- The kernel's pair of neighbourhood key heads number 3. -/
theorem nk3 (q : FVec Ideal S256x512 .f32) (g : Vec Ideal S1x128 .f32) (r : Fin 256) (l : Fin 128) :
    k0_pay1 k0_pay24 g (k0_pay32 q) (k0_pay33 q) (k0_pay34 q k0_pay24) (ix2 r l) = na (fun d => q (ix2 r ⟨384 + d.val, by omega⟩)) (fun d => g (ix2 0 d)) l := by
  refine Eq.trans ?_ (na_eq _ _ l)
  pointwise [k0_pay1, k0_pay24, k0_pay32, k0_pay33, k0_pay34]

/-- The kernel's pair of neighbourhood key heads number 2. -/
theorem nk2 (q : FVec Ideal S256x512 .f32) (g : Vec Ideal S1x128 .f32) (r : Fin 256) (l : Fin 128) :
    k0_pay31 q k0_pay24 g (ix2 r l) = na (fun d => q (ix2 r ⟨256 + d.val, by omega⟩)) (fun d => g (ix2 0 d)) l := by
  refine Eq.trans ?_ (na_eq _ _ l)
  pointwise [k0_pay24, k0_pay31]

/-- The kernel's pair of neighbourhood key heads number 1. -/
theorem nk1 (q : FVec Ideal S256x512 .f32) (g : Vec Ideal S1x128 .f32) (r : Fin 256) (l : Fin 128) :
    k0_pay30 q k0_pay24 g (ix2 r l) = na (fun d => q (ix2 r ⟨128 + d.val, by omega⟩)) (fun d => g (ix2 0 d)) l := by
  refine Eq.trans ?_ (na_eq _ _ l)
  pointwise [k0_pay24, k0_pay30]

/-- The kernel's pair of neighbourhood key heads number 0. -/
theorem nk0 (q : FVec Ideal S256x512 .f32) (g : Vec Ideal S1x128 .f32) (r : Fin 256) (l : Fin 128) :
    k0_pay29 k0_pay24 g (k0_pay25 q) (k0_pay27 q) (k0_pay28 q) (ix2 r l) = na (fun d => q (ix2 r ⟨0 + d.val, by omega⟩)) (fun d => g (ix2 0 d)) l := by
  refine Eq.trans ?_ (na_eq _ _ l)
  pointwise [k0_pay24, k0_pay25, k0_pay26, k0_pay27, k0_pay28, k0_pay29]

end Cert.CtxIdeal.At

end
-- ==== Proof.CtxRef.lean ====
/- The reference's context heads, entry by entry. -/
module

public import proofs.«01_k».proof.Defs
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.LatHeads
public import Idealize.ShloMosaic.Lib.Pipeline.ValueKit

@[expose] public section

set_option maxRecDepth 16384

noncomputable section

namespace Cert.CtxIdeal.At

open Cert.CtxIdeal Cert.CtxIdeal.Gen Idealize.ShloMosaic Idealize.ShloMosaic.TcCoe Idealize.SL.Sem
open Idealize.ShloMosaic.Pipeline (Dat)
open Cert.CtxRefIdeal.Read

open Cert.LatIdeal.At (hn na)

variable (x0 : FVec Ideal Cert.CtxRefIdeal.S2048x1024 .f32) (x1 : FVec Ideal Cert.CtxRefIdeal.S1x1024 .f32) (x2 : FVec Ideal Cert.CtxRefIdeal.S16x1x1024 .f32) (x3 : FVec Ideal Cert.CtxRefIdeal.S16x1x1024 .f32) (x4 : FVec Ideal Cert.CtxRefIdeal.S1024x2304 .bf16) (x7 : FVec Ideal Cert.CtxRefIdeal.S1x256 .f32) (x8 : FVec Ideal Cert.CtxRefIdeal.S256x1024 .bf16) (x9 : FVec Ideal Cert.CtxRefIdeal.S256x512 .bf16) (x11 : FVec Ideal Cert.CtxRefIdeal.S1x128 .f32) (x13 : FVec Ideal Cert.CtxRefIdeal.S1x128 .f32)

set_option maxHeartbeats 1000000 in
/-- The reference's key heads. -/
theorem k_ref (b : Fin 8) (s : Fin 256) (h : Fin 8) (l : Fin 128) :
    val_main_v66 (F := Ideal) x0 x1 x2 x3 x4 x7 x8 x11 (ix4 b s h l) = hn (fun d => val_main_v48 (F := Ideal) x0 x1 x2 x3 x4 x7 x8 (ix3 b s ⟨h.val * 128 + d.val, by omega⟩) + val_main_v31 (F := Ideal) x0 x1 x2 x3 x4 (ix3 b s d)) (fun d => x11 (ix2 0 d)) l := by
  pointwise [hn,
    val_main_v49, val_main_v50, val_main_v51, val_main_v52, val_main_v53, val_main_v54, val_main_cst_6, val_main_v55, val_main_v56, val_main_cst_7,
    val_main_v57, val_main_v58, val_main_cst_8, val_main_v59, val_main_v60, val_main_v61, val_main_v62, val_main_v63, val_main_v64, val_main_v65,
    val_main_v66]

set_option maxHeartbeats 1000000 in
/-- The reference's neighbourhood keys. -/
theorem nk_ref (b : Fin 8) (s : Fin 256) (p : Fin 4) (e : Fin 2) (l : Fin 64) :
    val_main_v100 (F := Ideal) x0 x1 x2 x3 x4 x13 (ix5 b s p e l) = na (fun d => val_main_v32 (F := Ideal) x0 x1 x2 x3 x4 (ix3 b s ⟨512 + (p.val * 128 + d.val), by omega⟩)) (fun d => x13 (ix2 0 d)) ⟨e.val * 64 + l.val, by omega⟩ := by
  pointwise [na,
    val_main_v83, val_main_v85, val_main_v87, val_main_v88, val_main_cst_12, val_main_v89, val_main_v90, val_main_cst_13, val_main_v91, val_main_v92,
    val_main_cst_14, val_main_v93, val_main_v94, val_main_v95, val_main_v96, val_main_v97, val_main_v98, val_main_v99, val_main_v100]
  have he : (e.val * 64 + l.val) / 64 * 64 = e.val * 64 := by omega
  simp only [he, Nat.add_mul, Nat.add_assoc]

set_option maxHeartbeats 1000000 in
/-- The keys returned are the heads side by side. -/
theorem k_out (b : Fin 8) (s : Fin 256) (h : Fin 8) (l : Fin 128) :
    val_main_v102 (F := Ideal) x0 x1 x2 x3 x4 x7 x8 x11 (ix2 ⟨b.val * 256 + s.val, by omega⟩ ⟨h.val * 128 + l.val, by omega⟩) = val_main_v66 (F := Ideal) x0 x1 x2 x3 x4 x7 x8 x11 (ix4 b s h l) := by
  pointwise [val_main_v102, val_main_v101]

set_option maxHeartbeats 1000000 in
/-- The values returned, row by row. -/
theorem v_out (b : Fin 8) (s : Fin 256) (j : Fin 512) :
    val_main_v104 (F := Ideal) x0 x1 x2 x3 x4 x7 x9 (ix2 ⟨b.val * 256 + s.val, by omega⟩ j) = val_main_v82 (F := Ideal) x0 x1 x2 x3 x4 x7 x9 (ix3 b s j) := by
  pointwise [val_main_v104, val_main_v103]

set_option maxHeartbeats 1000000 in
/-- The neighbourhood keys returned are the heads side by side. -/
theorem nk_out (b : Fin 8) (s : Fin 256) (p : Fin 4) (e : Fin 2) (l : Fin 64) :
    val_main_v106 (F := Ideal) x0 x1 x2 x3 x4 x13 (ix2 ⟨b.val * 256 + s.val, by omega⟩ ⟨p.val * 128 + (e.val * 64 + l.val), by omega⟩) = val_main_v100 (F := Ideal) x0 x1 x2 x3 x4 x13 (ix5 b s p e l) := by
  pointwise [val_main_v106, val_main_v105]

set_option maxHeartbeats 1000000 in
/-- The neighbourhood values returned, row by row. -/
theorem nv_out (b : Fin 8) (s : Fin 256) (j : Fin 512) :
    val_main_v108 (F := Ideal) x0 x1 x2 x3 x4 (ix2 ⟨b.val * 256 + s.val, by omega⟩ j) = val_main_v32 (F := Ideal) x0 x1 x2 x3 x4 (ix3 b s ⟨1024 + j.val, by omega⟩) := by
  pointwise [val_main_v108, val_main_v107, val_main_v86, val_main_v83]
  have hj : (8 + j.val / 128) * 128 + j.val / 64 % 2 * 64 + j.val % 64 = 1024 + j.val := by omega
  simp only [hj]

end Cert.CtxIdeal.At

end
-- ==== Proof.CtxValue.lean ====
/- The four arrays of the context's attention inputs after the run are the reference's. -/
module

public import proofs.«01_k».proof.Defs
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.CtxBase
public import proofs.«01_k».proof.Proof.CtxHeads
public import proofs.«01_k».proof.Proof.CtxRef
public import Idealize.ShloMosaic.Lib.Pipeline.ValueKit

@[expose] public section

set_option maxRecDepth 16384

noncomputable section

namespace Cert.CtxIdeal.At

open Cert.CtxIdeal Cert.CtxIdeal.Gen Idealize.ShloMosaic Idealize.ShloMosaic.TcCoe Idealize.SL.Sem
open Idealize.ShloMosaic.Pipeline (Dat)
open Cert.CtxRefIdeal.Read

open Cert.LatIdeal.At (hn na)

variable (m : (ℓ : Loc nD τ sig) → Buf (Elt Ideal) ℓ)

/-- An index of one head's block is a row and a lane. -/
theorem split_tile (x : S256x128.Idx) : ∃ (r : Fin 256) (l : Fin 128), x = ix2 r l :=
  ⟨x 0, x 1, by blk_ext⟩

/-- An index of a block of 512 lanes is a row and a lane. -/
theorem split_512 (x : S256x512.Idx) : ∃ (r : Fin 256) (l : Fin 512), x = ix2 r l :=
  ⟨x 0, x 1, by blk_ext⟩

/-- An index of a result of 1024 lanes, from its two numbers. -/
theorem at_1024 (b : Fin 8) (s : Fin 256) (h : Fin 8) (l : Fin 128) (z : Cert.CtxRefIdeal.S2048x1024.Idx)
    (h0 : (z 0 : ℕ) = b.val * 256 + s.val) (h1 : (z 1 : ℕ) = h.val * 128 + l.val) :
    z = ix2 ⟨b.val * 256 + s.val, by omega⟩ ⟨h.val * 128 + l.val, by omega⟩ := by
  blk_ext [h0, h1]

/-- An index of a result of 512 lanes, from its two numbers. -/
theorem at_512 (b : Fin 8) (s : Fin 256) (j : Fin 512) (z : Cert.CtxRefIdeal.S2048x512.Idx)
    (h0 : (z 0 : ℕ) = b.val * 256 + s.val) (h1 : (z 1 : ℕ) = j.val) :
    z = ix2 ⟨b.val * 256 + s.val, by omega⟩ j := by
  blk_ext [h0, h1]

/-- Heads of equal rows and weights are equal. -/
theorem hn_ext {q q' g g' : Fin 128 → EReal} (l : Fin 128) (hq : ∀ d, q d = q' d) (hg : ∀ d, g d = g' d) : hn q g l = hn q' g' l := by
  rw [funext hq, funext hg]

/-- The reference's keys of the context from the kernel's argument arrays. -/
abbrev REF16 (c : Dev nD) : FVec Ideal S2048x1024 .bf16 :=
  val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11))

/-- The reference's values of the context from the kernel's argument arrays. -/
abbrev REF17 (c : Dev nD) : FVec Ideal S2048x512 .bf16 :=
  val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg9))

/-- The reference's neighbourhood keys of the context from the kernel's argument arrays. -/
abbrev REF18 (c : Dev nD) : FVec Ideal S2048x512 .bf16 :=
  val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))

/-- The reference's neighbourhood values of the context from the kernel's argument arrays. -/
abbrev REF19 (c : Dev nD) : FVec Ideal S2048x512 .bf16 :=
  val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
/-- One head of the keys. -/
theorem tile16 (c : Dev nD) (t : Fin cfg0.N) (h : Fin 8) (r : Fin 256) (l : Fin 128) (z : S2048x1024.Idx)
    (h0 : (z 0 : ℕ) = (bt t).val * 256 + r.val) (h1 : (z 1 : ℕ) = h.val * 128 + l.val) :
    hn (fun d => k0_pay39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨h.val * 128 + d.val, by omega⟩) + k0_pay36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r d)) (fun d => (View.ld (Val := Elt Ideal) (S := S1x128) (e' := .f32) (iblk m c 11 t) r0_6) (ix2 0 d)) l = REF16 m c z := by
  have e : REF16 m c z = _ := congrArg (REF16 m c) (at_1024 (bt t) r h l z h0 h1)
  refine Eq.trans ?_ (e.trans ((k_out ..).trans (k_ref ..))).symm
  refine hn_ext l (fun d => ?_) (fun d => ?_)
  · exact congrArg₂ (· + ·) (k_eq m c t r _) (kr_eq m c t r d)
  · blk_point [iblk, V, idx t]

set_option maxHeartbeats 1000000 in
/-- One pair of heads of the neighbourhood keys. -/
theorem tile18 (c : Dev nD) (t : Fin cfg0.N) (p : Fin 4) (r : Fin 256) (l : Fin 128) (z : S2048x512.Idx)
    (h0 : (z 0 : ℕ) = (bt t).val * 256 + r.val) (h1 : (z 1 : ℕ) = p.val * 128 + l.val) :
    na (fun d => k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r ⟨p.val * 128 + d.val, by omega⟩)) (fun d => (View.ld (Val := Elt Ideal) (S := S1x128) (e' := .f32) (iblk m c 13 t) r0_6) (ix2 0 d)) l = REF18 m c z := by
  have hl : l.val / 64 * 64 + l.val % 64 = l.val := by omega
  have e : REF18 m c z = _ := congrArg (REF18 m c) (at_512 (bt t) r
    ⟨p.val * 128 + ((⟨l.val / 64, by omega⟩ : Fin 2).val * 64 + (⟨l.val % 64, by omega⟩ : Fin 64).val), by simp only [hl]; omega⟩ z
    h0 (by simp only [hl]; exact h1))
  refine Eq.trans ?_ (e.trans ((nk_out ..).trans (nk_ref ..))).symm
  congr 1
  · funext d; exact nak_eq m c t r _
  · funext d; blk_point [iblk, V, idx t]
  · exact Fin.ext hl.symm

/-- What a grid point leaves in the buffer of the keys is the reference's block. -/
theorem point16 (c : Dev nD) (t : Fin cfg0.N) (y : S256x1024.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF16 m c (((cfg0.win 16).blk t).view.emb y) := by
  canon_tiles x h
  all_goals
    obtain ⟨r, l, rfl⟩ := split_tile x
    have h0' : (y 0 : ℕ) = r.val := h0
    have hb : (bt t).val = t.val := rfl
  case piece0 =>
    have h1' : (y 1 : ℕ) = 896 + l.val := h1
    refine Eq.trans (kh7 ..) (tile16 m c t 7 r l _ ?_ ?_)
    all_goals blk_simp [idx t]
    · omega
    · omega
  case piece1 =>
    have h1' : (y 1 : ℕ) = 768 + l.val := h1
    refine Eq.trans (kh6 ..) (tile16 m c t 6 r l _ ?_ ?_)
    all_goals blk_simp [idx t]
    · omega
    · omega
  case piece2 =>
    have h1' : (y 1 : ℕ) = 640 + l.val := h1
    refine Eq.trans (kh5 ..) (tile16 m c t 5 r l _ ?_ ?_)
    all_goals blk_simp [idx t]
    · omega
    · omega
  case piece3 =>
    have h1' : (y 1 : ℕ) = 512 + l.val := h1
    refine Eq.trans (kh4 ..) (tile16 m c t 4 r l _ ?_ ?_)
    all_goals blk_simp [idx t]
    · omega
    · omega
  case piece4 =>
    have h1' : (y 1 : ℕ) = 384 + l.val := h1
    refine Eq.trans (kh3 ..) (tile16 m c t 3 r l _ ?_ ?_)
    all_goals blk_simp [idx t]
    · omega
    · omega
  case piece5 =>
    have h1' : (y 1 : ℕ) = 256 + l.val := h1
    refine Eq.trans (kh2 ..) (tile16 m c t 2 r l _ ?_ ?_)
    all_goals blk_simp [idx t]
    · omega
    · omega
  case piece6 =>
    have h1' : (y 1 : ℕ) = 128 + l.val := h1
    refine Eq.trans (kh1 ..) (tile16 m c t 1 r l _ ?_ ?_)
    all_goals blk_simp [idx t]
    · omega
    · omega
  case piece7 =>
    have h1' : (y 1 : ℕ) = 0 + l.val := h1.trans (by simp)
    refine Eq.trans (kh0 ..) (tile16 m c t 0 r l _ ?_ ?_)
    all_goals blk_simp [idx t]
    · omega
    · omega

/-- What a grid point leaves in the buffer of the neighbourhood keys is the reference's block. -/
theorem point18 (c : Dev nD) (t : Fin cfg0.N) (y : S256x512.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF18 m c (((cfg0.win 18).blk t).view.emb y) := by
  canon_tiles x h
  all_goals
    obtain ⟨r, l, rfl⟩ := split_tile x
    have h0' : (y 0 : ℕ) = r.val := h0
    have hb : (bt t).val = t.val := rfl
  case piece0 =>
    have h1' : (y 1 : ℕ) = 384 + l.val := h1
    refine Eq.trans (nk3 ..) (tile18 m c t 3 r l _ ?_ ?_)
    all_goals blk_simp [idx t]
    · omega
    · omega
  case piece1 =>
    have h1' : (y 1 : ℕ) = 256 + l.val := h1
    refine Eq.trans (nk2 ..) (tile18 m c t 2 r l _ ?_ ?_)
    all_goals blk_simp [idx t]
    · omega
    · omega
  case piece2 =>
    have h1' : (y 1 : ℕ) = 128 + l.val := h1
    refine Eq.trans (nk1 ..) (tile18 m c t 1 r l _ ?_ ?_)
    all_goals blk_simp [idx t]
    · omega
    · omega
  case piece3 =>
    have h1' : (y 1 : ℕ) = 0 + l.val := h1.trans (by simp)
    refine Eq.trans (nk0 ..) (tile18 m c t 0 r l _ ?_ ?_)
    all_goals blk_simp [idx t]
    · omega
    · omega

/-- What a grid point leaves in the buffer of the values is the reference's block. -/
theorem point17 (c : Dev nD) (t : Fin cfg0.N) (y : S256x512.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF17 m c (((cfg0.win 17).blk t).view.emb y) := by
  canon_tiles x h
  obtain ⟨r, j, rfl⟩ := split_512 x
  have h0' : (y 0 : ℕ) = r.val := h0
  have hb : (bt t).val = t.val := rfl
  have h1' : (y 1 : ℕ) = j.val := h1
  refine Eq.trans (Eq.trans ?_ (v_out ..).symm) (congrArg (REF17 m c) (at_512 (bt t) r j _ ?_ ?_)).symm
  · exact v_eq m c t r j
  · blk_simp [idx t]; omega
  · blk_simp [idx t]; omega

/-- What a grid point leaves in the buffer of the neighbourhood values is the reference's block. -/
theorem point19 (c : Dev nD) (t : Fin cfg0.N) (y : S256x512.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y = REF19 m c (((cfg0.win 19).blk t).view.emb y) := by
  canon_tiles x h
  obtain ⟨r, j, rfl⟩ := split_512 x
  have h0' : (y 0 : ℕ) = r.val := h0
  have hb : (bt t).val = t.val := rfl
  have h1' : (y 1 : ℕ) = j.val := h1
  refine Eq.trans (Eq.trans ?_ (nv_out ..).symm) (congrArg (REF19 m c) (at_512 (bt t) r j _ ?_ ?_)).symm
  · pointwise [k0_pay2]
    exact nav_eq m c t r j
  · blk_simp [idx t]; omega
  · blk_simp [idx t]; omega

/-- The array of the keys after the run. -/
theorem final16 (c : Dev nD) : (dats m 0 c).arrAt 16 (cfgs 0).N = REF16 m c := by
  refine (dats m 0 c).arrAt_eq_of_covers 16 _ (by decide +kernel) fun t hf y => ?_
  blk_simp
  rw [after0_16]
  exact point16 m c t y

/-- The array of the values after the run. -/
theorem final17 (c : Dev nD) : (dats m 0 c).arrAt 17 (cfgs 0).N = REF17 m c := by
  refine (dats m 0 c).arrAt_eq_of_covers 17 _ (by decide +kernel) fun t hf y => ?_
  blk_simp
  rw [after0_17]
  exact point17 m c t y

/-- The array of the neighbourhood keys after the run. -/
theorem final18 (c : Dev nD) : (dats m 0 c).arrAt 18 (cfgs 0).N = REF18 m c := by
  refine (dats m 0 c).arrAt_eq_of_covers 18 _ (by decide +kernel) fun t hf y => ?_
  blk_simp
  rw [after0_18]
  exact point18 m c t y

/-- The array of the neighbourhood values after the run. -/
theorem final19 (c : Dev nD) : (dats m 0 c).arrAt 19 (cfgs 0).N = REF19 m c := by
  refine (dats m 0 c).arrAt_eq_of_covers 19 _ (by decide +kernel) fun t hf y => ?_
  blk_simp
  rw [after0_19]
  exact point19 m c t y

end Cert.CtxIdeal.At

end
-- ==== Proof.CtxClaim.lean ====
/- The claims about the context's attention inputs. -/
module

public import proofs.«01_k».proof.Defs
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.CtxValue
public import Idealize.ShloMosaic.Lib.Pipeline.ValueKit

@[expose] public section

set_option maxRecDepth 16384

noncomputable section

namespace Cert.CtxIdeal.At

open Cert.CtxIdeal Cert.CtxIdeal.Gen Idealize.ShloMosaic Idealize.ShloMosaic.TcCoe Idealize.SL.Sem
open Idealize.ShloMosaic.Pipeline (Dat)
open Cert.CtxRefIdeal.Read

set_option maxHeartbeats 2000000 in
/-- The reference's run ends with its four stages and keeps its arguments. -/
theorem ref_run (m' : (ℓ : Loc Cert.CtxRefIdeal.nD Cert.CtxRefIdeal.τ Cert.CtxRefIdeal.sig) → Buf (Elt Ideal) ℓ) (g' : Dev Cert.CtxRefIdeal.nD → PrngReg) :
    θ_run (Cert.CtxRefIdeal.defs (F := Ideal)) (onTc (τ := Cert.CtxRefIdeal.τ) (Cert.CtxRefIdeal.main (F := Ideal))) ⟨m', fun _ => 0, g'⟩ fun r => ∀ c : Dev Cert.CtxRefIdeal.nD,
      r.2.mem ((c.tc : Thread Cert.CtxRefIdeal.nD Cert.CtxRefIdeal.τ).loc Cert.CtxRefIdeal.main_v102) = val_main_v102 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg7)) (m' ((c.tc : Thread Cert.CtxRefIdeal.nD Cert.CtxRefIdeal.τ).loc Cert.CtxRefIdeal.main_arg8)) (m' ((c.tc : Thread Cert.CtxRefIdeal.nD Cert.CtxRefIdeal.τ).loc Cert.CtxRefIdeal.main_arg11))
      ∧ r.2.mem ((c.tc : Thread Cert.CtxRefIdeal.nD Cert.CtxRefIdeal.τ).loc Cert.CtxRefIdeal.main_v104) = val_main_v104 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg7)) (m' ((c.tc : Thread Cert.CtxRefIdeal.nD Cert.CtxRefIdeal.τ).loc Cert.CtxRefIdeal.main_arg9))
      ∧ r.2.mem ((c.tc : Thread Cert.CtxRefIdeal.nD Cert.CtxRefIdeal.τ).loc Cert.CtxRefIdeal.main_v106) = val_main_v106 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg13))
      ∧ r.2.mem ((c.tc : Thread Cert.CtxRefIdeal.nD Cert.CtxRefIdeal.τ).loc Cert.CtxRefIdeal.main_v108) = val_main_v108 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4))
      ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8)
      ∧ r.2.mem ((c.tc : Thread Cert.CtxRefIdeal.nD Cert.CtxRefIdeal.τ).loc Cert.CtxRefIdeal.main_arg9) = m' ((c.tc : Thread Cert.CtxRefIdeal.nD Cert.CtxRefIdeal.τ).loc Cert.CtxRefIdeal.main_arg9)
      ∧ r.2.mem ((c.tc : Thread Cert.CtxRefIdeal.nD Cert.CtxRefIdeal.τ).loc Cert.CtxRefIdeal.main_arg10) = m' ((c.tc : Thread Cert.CtxRefIdeal.nD Cert.CtxRefIdeal.τ).loc Cert.CtxRefIdeal.main_arg10)
      ∧ r.2.mem ((c.tc : Thread Cert.CtxRefIdeal.nD Cert.CtxRefIdeal.τ).loc Cert.CtxRefIdeal.main_arg11) = m' ((c.tc : Thread Cert.CtxRefIdeal.nD Cert.CtxRefIdeal.τ).loc Cert.CtxRefIdeal.main_arg11)
      ∧ r.2.mem ((c.tc : Thread Cert.CtxRefIdeal.nD Cert.CtxRefIdeal.τ).loc Cert.CtxRefIdeal.main_arg12) = m' ((c.tc : Thread Cert.CtxRefIdeal.nD Cert.CtxRefIdeal.τ).loc Cert.CtxRefIdeal.main_arg12)
      ∧ r.2.mem ((c.tc : Thread Cert.CtxRefIdeal.nD Cert.CtxRefIdeal.τ).loc Cert.CtxRefIdeal.main_arg13) = m' ((c.tc : Thread Cert.CtxRefIdeal.nD Cert.CtxRefIdeal.τ).loc Cert.CtxRefIdeal.main_arg13)
      ∧ r.2.mem ((c.tc : Thread Cert.CtxRefIdeal.nD Cert.CtxRefIdeal.τ).loc Cert.CtxRefIdeal.main_arg14) = m' ((c.tc : Thread Cert.CtxRefIdeal.nD Cert.CtxRefIdeal.τ).loc Cert.CtxRefIdeal.main_arg14)
      ∧ r.2.mem ((c.tc : Thread Cert.CtxRefIdeal.nD Cert.CtxRefIdeal.τ).loc Cert.CtxRefIdeal.main_arg15) = m' ((c.tc : Thread Cert.CtxRefIdeal.nD Cert.CtxRefIdeal.τ).loc Cert.CtxRefIdeal.main_arg15) :=
  (θ_run (Cert.CtxRefIdeal.defs (F := Ideal)) _ _).mono (fun _ h c =>
    ⟨(h c).1.trans (Cert.CtxRefIdeal.Read.val_main_v102_eq ..), (h c).2.1.trans (Cert.CtxRefIdeal.Read.val_main_v104_eq ..), (h c).2.2.1.trans (Cert.CtxRefIdeal.Read.val_main_v106_eq ..), (h c).2.2.2.1.trans (Cert.CtxRefIdeal.Read.val_main_v108_eq ..), (h c).2.2.2.2⟩)
    (Cert.CtxRefIdeal.Value.run (F := Ideal) m' g')

set_option maxHeartbeats 2000000 in
/-- Kernel and reference end with the same four results. -/
theorem algebraic : Cert.algebraic_CtxIdeal_CtxRefIdeal := by
  intro m g m' g' hpre hagree
  refine ⟨REF16 m, REF17 m, REF18 m, REF19 m, ?_, ?_⟩
  · run_from Cert.CtxIdeal.Gen.run_main m g
    · exact (hc.1 16).trans (final16 m c)
    · exact (hc.1 17).trans (final17 m c)
    · exact (hc.1 18).trans (final18 m c)
    · exact (hc.1 19).trans (final19 m c)
  · refine Idealize.ShloMosaic.θ_run_mono (ref_run m' g') ?_
    intro r hr c
    obtain ⟨e0, e1, e2, e3, e4, e5, e6, e7, e8, e9, e10, e11, e12, e13, e14, e15⟩ := hagree c
    obtain ⟨h0, h1, h2, h3, hargs⟩ := hr c
    have q0 : val_main_v102 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg7)) (m' ((c.tc : Thread Cert.CtxRefIdeal.nD Cert.CtxRefIdeal.τ).loc Cert.CtxRefIdeal.main_arg8)) (m' ((c.tc : Thread Cert.CtxRefIdeal.nD Cert.CtxRefIdeal.τ).loc Cert.CtxRefIdeal.main_arg11)) = REF16 m c := by rw [e0, e1, e2, e3, e4, e7, e8, e11]
    have q1 : val_main_v104 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg7)) (m' ((c.tc : Thread Cert.CtxRefIdeal.nD Cert.CtxRefIdeal.τ).loc Cert.CtxRefIdeal.main_arg9)) = REF17 m c := by rw [e0, e1, e2, e3, e4, e7, e9]
    have q2 : val_main_v106 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) (m' ((c.tc : Thread Cert.CtxRefIdeal.nD Cert.CtxRefIdeal.τ).loc Cert.CtxRefIdeal.main_arg13)) = REF18 m c := by rw [e0, e1, e2, e3, e4, e13]
    have q3 : val_main_v108 (F := Ideal) (m' ((c.tc : Thread Cert.CtxRefIdeal.nD Cert.CtxRefIdeal.τ).loc Cert.CtxRefIdeal.main_arg0)) (m' ((c.tc : Thread Cert.CtxRefIdeal.nD Cert.CtxRefIdeal.τ).loc Cert.CtxRefIdeal.main_arg1)) (m' ((c.tc : Thread Cert.CtxRefIdeal.nD Cert.CtxRefIdeal.τ).loc Cert.CtxRefIdeal.main_arg2)) (m' ((c.tc : Thread Cert.CtxRefIdeal.nD Cert.CtxRefIdeal.τ).loc Cert.CtxRefIdeal.main_arg3)) (m' ((c.tc : Thread Cert.CtxRefIdeal.nD Cert.CtxRefIdeal.τ).loc Cert.CtxRefIdeal.main_arg4)) = REF19 m c := by rw [e0, e1, e2, e3, e4]
    exact ⟨h0.trans q0, h1.trans q1, h2.trans q2, h3.trans q3, hargs⟩

/-- The reference's frame: its run keeps the arguments and it declares no semaphore. -/
theorem frame_ref : Cert.quiescent_CtxRefIdeal := fun m g _ =>
  (θ_run (Cert.CtxRefIdeal.defs (F := Ideal)) _ _).mono (fun r h => ⟨fun c => (h c).2.2.2.2, sem_eq_zero_of_no_sems (by decide) r.2⟩)
    (Cert.CtxRefIdeal.Value.run (F := Ideal) m g)

/-- The constant named is the rounding of the reciprocal of 96. -/
theorem preserves : Cert.preserves_Ctx_CtxIdeal :=
  IdealRules.named_const.statement Cert.CtxIdeal.κ "r96" .f32 0x3C2AAAAB#32 ((96⁻¹ : ℝ) : EReal) rfl

end Cert.CtxIdeal.At

end
-- ==== Proof.AdaValue.lean ====
/- The modulation rows after the run are the reference's. -/
module

public import proofs.«01_k».proof.Defs
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit

@[expose] public section

set_option maxRecDepth 16384

noncomputable section

namespace Cert.AdaIdeal.At

open Cert.AdaIdeal Cert.AdaIdeal.Gen Idealize.ShloMosaic Idealize.ShloMosaic.TcCoe Idealize.SL.Sem
open Idealize.ShloMosaic.Pipeline (Dat)
open Cert.AdaRefIdeal.Read

variable (m : (ℓ : Loc nD τ sig) → Buf (Elt Ideal) ℓ)

/-- Which block of each array a grid point reads and writes. -/
theorem idx : ∀ t : Fin cfg0.N, win0_0.index t = ![0, 0] ∧ win0_1.index t = ![t.val / 4, 0, t.val % 4] ∧ win0_2.index t = ![t.val / 4, 0, t.val % 4] ∧ win0_3.index t = ![t.val / 4, 0, t.val % 4] :=
  (by decide +kernel : ∀ t : Fin grid0.N, _)

/-- The reference's result from the kernel's argument arrays. -/
abbrev REF (c : Dev nD) : FVec Ideal S2x16x6144 .f32 :=
  val_main_v4 (F := Ideal) (m ((c : Thread nD τ).loc main_arg0)) (m ((c : Thread nD τ).loc main_arg1)) (m ((c : Thread nD τ).loc main_arg2))

/-- What a grid point leaves in the result's buffer is the reference's block. -/
theorem point (c : Dev nD) (t : Fin cfg0.N) (y : S1x16x1536.Idx) :
    k0_pay1 (iblk m c 0 t) (iblk m c 1 t) (iblk m c 2 t) y = REF m c (((cfg0.win 3).blk t).view.emb y) := by
  have ht : t.val < 8 := lt_of_lt_of_eq t.isLt N_0
  pointwise [k0_pay1,
    val_main_call0_v0, val_main_call0_v1, val_main_call0_cst, val_main_call0_v2, val_main_call0_v3, val_main_call0_cst_0, val_main_call0_v4,
    val_main_call0_v5, val_main_v0, val_main_v1, val_main_v2, val_main_v3, val_main_v4]
  simp only [Ideal.logistic]
  blk_point [iblk, V, idx t]

/-- The result array after the run. -/
theorem final (c : Dev nD) : (dats m 0 c).arrAt 3 (cfgs 0).N = REF m c := by
  refine (dats m 0 c).arrAt_eq_of_covers 3 _ (by decide +kernel) fun t hf y => ?_
  blk_simp
  rw [after0_3]
  frame_out
  exact point m c t y

/-- Kernel and reference end with the same result. -/
theorem algebraic : Cert.algebraic_AdaIdeal_AdaRefIdeal := by
  pair_intro
  · run_from Cert.AdaIdeal.Gen.run_main m g
  · run_from Cert.AdaRefIdeal.Value.run m' g'
    refine Eq.trans ?_ (final m c).symm
    rw [Cert.AdaRefIdeal.Read.val_main_v4_eq]

/-- The reference's frame: its run keeps the arguments and it declares no semaphore. -/
theorem frame_ref : Cert.quiescent_AdaRefIdeal := fun m g _ =>
  (θ_run (Cert.AdaRefIdeal.defs (F := Ideal)) _ _).mono (fun r h => ⟨fun c => (h c).2, sem_eq_zero_of_no_sems (by decide) r.2⟩)
    (Cert.AdaRefIdeal.Value.run (F := Ideal) m g)

end Cert.AdaIdeal.At

end
-- ==== Proof.lean ====
/- The claims of the statement put together: per program the printed facts, the runs that change no argument, what idealising
   left alone, and the values the kernel and the reference end with. -/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_finite_scores
public import proofs.«01_k».proof.Proof.Gen.MlaIdeal.Value
public import proofs.«01_k».proof.Proof.Gen.GluIdeal.Value
public import proofs.«01_k».proof.Proof.Gen.OutProjIdeal.Value
public import proofs.«01_k».proof.Proof.Gen.MlaRefIdeal.Run
public import proofs.«01_k».proof.Proof.Gen.MlaRefIdeal.Read
public import proofs.«01_k».proof.Proof.Gen.GluRefIdeal.Run
public import proofs.«01_k».proof.Proof.Gen.GluRefIdeal.Read
public import proofs.«01_k».proof.Proof.Gen.OutProjRefIdeal.Run
public import proofs.«01_k».proof.Proof.Gen.OutProjRefIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.TailRefIdeal.Read
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.LatRefIdeal.Read
public import proofs.«01_k».proof.Proof.MlaClaim
public import proofs.«01_k».proof.Proof.GluValue
public import proofs.«01_k».proof.Proof.OutValue
public import proofs.«01_k».proof.Proof.TailValue
public import proofs.«01_k».proof.Proof.LatClaim
public import proofs.«01_k».proof.Proof.CtxClaim
public import proofs.«01_k».proof.Proof.AdaValue
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import Idealize.ShloMosaic.Adequacy
public import Idealize.ShloMosaic.Init

@[expose] public section

noncomputable section

namespace Cert.Proof

open Idealize.ShloMosaic Idealize.SL.Sem Cert.Mla

/-- Every claim: the frames (with and without the precondition), what idealising preserves, and for each call the equation of
its results with the reference's. -/
theorem claim : Cert.Claim :=
  ⟨Cert.Mla.Gen.facts,
   Cert.MlaIdeal.Gen.facts,
   Cert.MlaRefIdeal.Gen.facts,
   Cert.Glu.Gen.facts,
   Cert.GluIdeal.Gen.facts,
   Cert.GluRefIdeal.Gen.facts,
   Cert.OutProj.Gen.facts,
   Cert.OutProjIdeal.Gen.facts,
   Cert.OutProjRefIdeal.Gen.facts,
   Cert.Tail.Gen.facts,
   Cert.TailIdeal.Gen.facts,
   Cert.TailRefIdeal.Gen.facts,
   Cert.Lat.Gen.facts,
   Cert.LatIdeal.Gen.facts,
   Cert.LatRefIdeal.Gen.facts,
   Cert.Ctx.Gen.facts,
   Cert.CtxIdeal.Gen.facts,
   Cert.CtxRefIdeal.Gen.facts,
   Cert.Ada.Gen.facts,
   Cert.AdaIdeal.Gen.facts,
   Cert.AdaRefIdeal.Gen.facts,
   Cert.MlaIdeal.At.pre_facts,
   fun m ρ _ => Cert.Mla.Gen.frame m ρ,
   fun m ρ _ => Cert.MlaIdeal.Gen.frame m ρ,
   fun m ρ _ => Cert.MlaIdeal.Gen.frame m ρ,
   Cert.MlaIdeal.At.frame_ref,
   fun m ρ _ => Cert.MlaIdeal.At.frame_ref m ρ trivial,
   fun m ρ _ => Cert.Glu.Gen.frame m ρ,
   fun m ρ _ => Cert.GluIdeal.Gen.frame m ρ,
   Cert.GluIdeal.At.frame_ref,
   fun m ρ _ => Cert.OutProj.Gen.frame m ρ,
   fun m ρ _ => Cert.OutProjIdeal.Gen.frame m ρ,
   Cert.OutProjIdeal.At.frame_ref,
   fun m ρ _ => Cert.Tail.Gen.frame m ρ,
   fun m ρ _ => Cert.TailIdeal.Gen.frame m ρ,
   Cert.TailIdeal.At.frame_ref,
   fun m ρ _ => Cert.Lat.Gen.frame m ρ,
   fun m ρ _ => Cert.LatIdeal.Gen.frame m ρ,
   Cert.LatIdeal.At.frame_ref,
   fun m ρ _ => Cert.Ctx.Gen.frame m ρ,
   fun m ρ _ => Cert.CtxIdeal.Gen.frame m ρ,
   Cert.CtxIdeal.At.frame_ref,
   fun m ρ _ => Cert.Ada.Gen.frame m ρ,
   fun m ρ _ => Cert.AdaIdeal.Gen.frame m ρ,
   Cert.AdaIdeal.At.frame_ref,
   trivial,
   Cert.MlaIdeal.At.algebraic,
   trivial,
   Cert.GluIdeal.At.algebraic,
   trivial,
   Cert.OutProjIdeal.At.algebraic,
   trivial,
   Cert.TailIdeal.At.algebraic,
   Cert.LatIdeal.At.preserves,
   Cert.LatIdeal.At.algebraic,
   Cert.CtxIdeal.At.preserves,
   Cert.CtxIdeal.At.algebraic,
   trivial,
   Cert.AdaIdeal.At.algebraic⟩

end Cert.Proof

end
